-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_is_finite_KernelIdeal [hPre_router_is_finite_KernelIdeal : Cert.Pre_router_is_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_router_is_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_is_finite_ReferenceIdeal [hPre_router_is_finite_ReferenceIdeal : Cert.Pre_router_is_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_is_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_is_finite_KernelIdeal [hKernelIdeal : Cert.KernelIdeal.Facts] [hPre_router_is_finite_KernelIdeal : Cert.Pre_router_is_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_is_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_is_finite_ReferenceIdeal [hReferenceIdeal : Cert.ReferenceIdeal.Facts] [hPre_router_is_finite_ReferenceIdeal : Cert.Pre_router_is_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_is_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_router_is_finite_KernelIdeal [hKernelIdeal : Cert.KernelIdeal.Facts] [hReferenceIdeal : Cert.ReferenceIdeal.Facts] [hPre_router_is_finite_KernelIdeal : Cert.Pre_router_is_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_is_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_is_finite_KernelIdeal : Cert.Pre_router_is_finite_KernelIdeal.Facts) (hPre_router_is_finite_ReferenceIdeal : Cert.Pre_router_is_finite_ReferenceIdeal.Facts),
    quiescent_Kernel (hKernel := hKernel)
    ∧ quiescent_KernelIdeal (hKernelIdeal := hKernelIdeal)
    ∧ quiescent_KernelIdeal_pre_router_is_finite_KernelIdeal (hKernelIdeal := hKernelIdeal) (hPre_router_is_finite_KernelIdeal := hPre_router_is_finite_KernelIdeal)
    ∧ quiescent_ReferenceIdeal (hReferenceIdeal := hReferenceIdeal)
    ∧ quiescent_ReferenceIdeal_pre_router_is_finite_ReferenceIdeal (hReferenceIdeal := hReferenceIdeal) (hPre_router_is_finite_ReferenceIdeal := hPre_router_is_finite_ReferenceIdeal)
    ∧ preserves_Kernel_KernelIdeal
    ∧ algebraic_KernelIdeal_ReferenceIdeal_pre_router_is_finite_KernelIdeal (hKernelIdeal := hKernelIdeal) (hReferenceIdeal := hReferenceIdeal) (hPre_router_is_finite_KernelIdeal := hPre_router_is_finite_KernelIdeal)
-- ==== Pre_router_is_finite_KernelIdeal.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .bf16) (main_arg1 : FVec F S256x16 .bf16) (main_arg2 : IVec S512x1 32) (main_arg3 : FVec F S2x256x512 .bf16) (main_arg4 : FVec F S256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x16 .bf16 := Host.absf main_arg1
  let main_cst_0 : FVec F S_ .bf16 := constant S_ .bf16 0x7F80#16
  let main_v5 : FVec F S256x16 .bf16 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Pre_router_is_finite_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .bf16) (main_arg1 : FVec F S256x16 .bf16) (main_arg2 : IVec S512x1 32) (main_arg3 : FVec F S16x256x512 .bf16) (main_arg4 : FVec F S256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x16 .bf16 := Host.absf main_arg1
  let main_cst_0 : FVec F S_ .bf16 := constant S_ .bf16 0x7F80#16
  let main_v5 : FVec F S256x16 .bf16 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S3x256x512 : Shape := ⟨3, ![3, 256, 512]⟩
abbrev S6 : Shape := ⟨1, ![6]⟩
abbrev S_ : Shape := ⟨0, ![]⟩
abbrev S512x16 : Shape := ⟨2, ![512, 16]⟩
abbrev S512 : Shape := ⟨1, ![512]⟩
abbrev S1x256x512 : Shape := ⟨3, ![1, 256, 512]⟩
abbrev S1 : Shape := ⟨1, ![1]⟩
abbrev S1x128x512 : Shape := ⟨3, ![1, 128, 512]⟩
abbrev S128x512 : Shape := ⟨2, ![128, 512]⟩
abbrev S1x64x512 : Shape := ⟨3, ![1, 64, 512]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x16, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S512x512, .f32⟩
  | .local _ .vmem, ⟨6, _⟩ => ⟨S512x512, .bf16⟩
  | .local _ .vmem, ⟨7, _⟩ => ⟨S3x256x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c1_i32_37 : BitVec 32 := 1#32
  let c0_i32_34 : BitVec 32 := 0#32
  let v76 : BitVec 32 := Scalar.shrsi v2 c0_i32_34
  let c1_i32_35 : BitVec 32 := 1#32
  let v77 : BitVec 32 := Scalar.andi v76 c1_i32_35
  let v79 : BitVec 32 := Scalar.subi c1_i32_37 v77
  let c256_i32 : BitVec 32 := 256#32
  let v80 : BitVec 32 := Scalar.muli v79 c256_i32
  let v81 : BitVec 32 := Scalar.addi v75 v80
  let c0_i32_46 : BitVec 32 := 0#32
  ![v81.toNat, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v78 : BitVec 32 := Scalar.xori v2 c1_i32_36
  let c1_i32_42 : BitVec 32 := 1#32
  let v84 : BitVec 32 := Scalar.muli v78 c1_i32_42
  let v85 : BitVec 32 := Scalar.addi c0_i32_43 v84
  v85.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c0_i32_34 : BitVec 32 := 0#32
  let v76 : BitVec 32 := Scalar.shrsi v2 c0_i32_34
  let c1_i32_35 : BitVec 32 := 1#32
  let v77 : BitVec 32 := Scalar.andi v76 c1_i32_35
  let c256_i32_38 : BitVec 32 := 256#32
  let v82 : BitVec 32 := Scalar.muli v77 c256_i32_38
  let v83 : BitVec 32 := Scalar.addi v75 v82
  let v108 : Index := Scalar.indexCast v83
  let c0_65 : Index := 0#32
  ![v108.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c0_i32_34 : BitVec 32 := 0#32
  let v76 : BitVec 32 := Scalar.shrsi v2 c0_i32_34
  let c1_i32_35 : BitVec 32 := 1#32
  let v77 : BitVec 32 := Scalar.andi v76 c1_i32_35
  let c256_i32_38 : BitVec 32 := 256#32
  let v82 : BitVec 32 := Scalar.muli v77 c256_i32_38
  let v83 : BitVec 32 := Scalar.addi v75 v82
  let c1_i32_73 : BitVec 32 := 1#32
  let c1_i32_70 : BitVec 32 := 1#32
  let v117 : BitVec 32 := Scalar.shrsi v2 c1_i32_70
  let c1_i32_71 : BitVec 32 := 1#32
  let v118 : BitVec 32 := Scalar.andi v117 c1_i32_71
  let v120 : BitVec 32 := Scalar.subi c1_i32_73 v118
  let c128_i32 : BitVec 32 := 128#32
  let v121 : BitVec 32 := Scalar.muli v120 c128_i32
  let v122 : BitVec 32 := Scalar.addi v83 v121
  let c0_i32_82 : BitVec 32 := 0#32
  ![v122.toNat, 0]
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_72 : BitVec 32 := 2#32
  let v119 : BitVec 32 := Scalar.xori v2 c2_i32_72
  let c1_i32_78 : BitVec 32 := 1#32
  let v125 : BitVec 32 := Scalar.muli v119 c1_i32_78
  let v126 : BitVec 32 := Scalar.addi c0_i32_79 v125
  v126.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c0_i32_34 : BitVec 32 := 0#32
  let v76 : BitVec 32 := Scalar.shrsi v2 c0_i32_34
  let c1_i32_35 : BitVec 32 := 1#32
  let v77 : BitVec 32 := Scalar.andi v76 c1_i32_35
  let c256_i32_38 : BitVec 32 := 256#32
  let v82 : BitVec 32 := Scalar.muli v77 c256_i32_38
  let v83 : BitVec 32 := Scalar.addi v75 v82
  let c1_i32_70 : BitVec 32 := 1#32
  let v117 : BitVec 32 := Scalar.shrsi v2 c1_i32_70
  let c1_i32_71 : BitVec 32 := 1#32
  let v118 : BitVec 32 := Scalar.andi v117 c1_i32_71
  let c128_i32_74 : BitVec 32 := 128#32
  let v123 : BitVec 32 := Scalar.muli v118 c128_i32_74
  let v124 : BitVec 32 := Scalar.addi v83 v123
  let v146 : Index := Scalar.indexCast v124
  let c0_98 : Index := 0#32
  ![v146.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c0_i32_34 : BitVec 32 := 0#32
  let v76 : BitVec 32 := Scalar.shrsi v2 c0_i32_34
  let c1_i32_35 : BitVec 32 := 1#32
  let v77 : BitVec 32 := Scalar.andi v76 c1_i32_35
  let c256_i32_38 : BitVec 32 := 256#32
  let v82 : BitVec 32 := Scalar.muli v77 c256_i32_38
  let v83 : BitVec 32 := Scalar.addi v75 v82
  let c1_i32_70 : BitVec 32 := 1#32
  let v117 : BitVec 32 := Scalar.shrsi v2 c1_i32_70
  let c1_i32_71 : BitVec 32 := 1#32
  let v118 : BitVec 32 := Scalar.andi v117 c1_i32_71
  let c128_i32_74 : BitVec 32 := 128#32
  let v123 : BitVec 32 := Scalar.muli v118 c128_i32_74
  let v124 : BitVec 32 := Scalar.addi v83 v123
  let c1_i32_106 : BitVec 32 := 1#32
  let c2_i32_103 : BitVec 32 := 2#32
  let v155 : BitVec 32 := Scalar.shrsi v2 c2_i32_103
  let c1_i32_104 : BitVec 32 := 1#32
  let v156 : BitVec 32 := Scalar.andi v155 c1_i32_104
  let v158 : BitVec 32 := Scalar.subi c1_i32_106 v156
  let c64_i32 : BitVec 32 := 64#32
  let v159 : BitVec 32 := Scalar.muli v158 c64_i32
  let v160 : BitVec 32 := Scalar.addi v124 v159
  let c0_i32_115 : BitVec 32 := 0#32
  ![v160.toNat, 0]
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_105 : BitVec 32 := 4#32
  let v157 : BitVec 32 := Scalar.xori v2 c4_i32_105
  let c1_i32_111 : BitVec 32 := 1#32
  let v163 : BitVec 32 := Scalar.muli v157 c1_i32_111
  let v164 : BitVec 32 := Scalar.addi c0_i32_112 v163
  v164.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c0_i32_34 : BitVec 32 := 0#32
  let v76 : BitVec 32 := Scalar.shrsi v2 c0_i32_34
  let c1_i32_35 : BitVec 32 := 1#32
  let v77 : BitVec 32 := Scalar.andi v76 c1_i32_35
  let c256_i32_38 : BitVec 32 := 256#32
  let v82 : BitVec 32 := Scalar.muli v77 c256_i32_38
  let v83 : BitVec 32 := Scalar.addi v75 v82
  let c1_i32_70 : BitVec 32 := 1#32
  let v117 : BitVec 32 := Scalar.shrsi v2 c1_i32_70
  let c1_i32_71 : BitVec 32 := 1#32
  let v118 : BitVec 32 := Scalar.andi v117 c1_i32_71
  let c128_i32_74 : BitVec 32 := 128#32
  let v123 : BitVec 32 := Scalar.muli v118 c128_i32_74
  let v124 : BitVec 32 := Scalar.addi v83 v123
  let c2_i32_103 : BitVec 32 := 2#32
  let v155 : BitVec 32 := Scalar.shrsi v2 c2_i32_103
  let c1_i32_104 : BitVec 32 := 1#32
  let v156 : BitVec 32 := Scalar.andi v155 c1_i32_104
  let c64_i32_107 : BitVec 32 := 64#32
  let v161 : BitVec 32 := Scalar.muli v156 c64_i32_107
  let v162 : BitVec 32 := Scalar.addi v124 v161
  let v184 : Index := Scalar.indexCast v162
  let c0_131 : Index := 0#32
  ![v184.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c0_i32_34 : BitVec 32 := 0#32
  let v76 : BitVec 32 := Scalar.shrsi v2 c0_i32_34
  let c1_i32_35 : BitVec 32 := 1#32
  let v77 : BitVec 32 := Scalar.andi v76 c1_i32_35
  let c256_i32_38 : BitVec 32 := 256#32
  let v82 : BitVec 32 := Scalar.muli v77 c256_i32_38
  let v83 : BitVec 32 := Scalar.addi v75 v82
  let c1_i32_70 : BitVec 32 := 1#32
  let v117 : BitVec 32 := Scalar.shrsi v2 c1_i32_70
  let c1_i32_71 : BitVec 32 := 1#32
  let v118 : BitVec 32 := Scalar.andi v117 c1_i32_71
  let c128_i32_74 : BitVec 32 := 128#32
  let v123 : BitVec 32 := Scalar.muli v118 c128_i32_74
  let v124 : BitVec 32 := Scalar.addi v83 v123
  let c2_i32_103 : BitVec 32 := 2#32
  let v155 : BitVec 32 := Scalar.shrsi v2 c2_i32_103
  let c1_i32_104 : BitVec 32 := 1#32
  let v156 : BitVec 32 := Scalar.andi v155 c1_i32_104
  let c64_i32_107 : BitVec 32 := 64#32
  let v161 : BitVec 32 := Scalar.muli v156 c64_i32_107
  let v162 : BitVec 32 := Scalar.addi v124 v161
  let c0_i32_139 : BitVec 32 := 0#32
  ![v162.toNat, 0]
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_135 : BitVec 32 := 4#32
  let v193 : BitVec 32 := Scalar.xori v2 c4_i32_135
  let c1_i32_137 : BitVec 32 := 1#32
  let v194 : BitVec 32 := Scalar.muli v193 c1_i32_137
  let v195 : BitVec 32 := Scalar.addi c0_i32_138 v194
  v195.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c0_i32_34 : BitVec 32 := 0#32
  let v76 : BitVec 32 := Scalar.shrsi v2 c0_i32_34
  let c1_i32_35 : BitVec 32 := 1#32
  let v77 : BitVec 32 := Scalar.andi v76 c1_i32_35
  let c256_i32_38 : BitVec 32 := 256#32
  let v82 : BitVec 32 := Scalar.muli v77 c256_i32_38
  let v83 : BitVec 32 := Scalar.addi v75 v82
  let c1_i32_70 : BitVec 32 := 1#32
  let v117 : BitVec 32 := Scalar.shrsi v2 c1_i32_70
  let c1_i32_71 : BitVec 32 := 1#32
  let v118 : BitVec 32 := Scalar.andi v117 c1_i32_71
  let c128_i32_74 : BitVec 32 := 128#32
  let v123 : BitVec 32 := Scalar.muli v118 c128_i32_74
  let v124 : BitVec 32 := Scalar.addi v83 v123
  let c2_i32_103 : BitVec 32 := 2#32
  let v155 : BitVec 32 := Scalar.shrsi v2 c2_i32_103
  let c1_i32_104 : BitVec 32 := 1#32
  let v156 : BitVec 32 := Scalar.andi v155 c1_i32_104
  let c64_i32_107 : BitVec 32 := 64#32
  let v161 : BitVec 32 := Scalar.muli v156 c64_i32_107
  let v162 : BitVec 32 := Scalar.addi v124 v161
  let c2_i32_152 : BitVec 32 := 2#32
  let v212 : BitVec 32 := Scalar.shrsi v2 c2_i32_152
  let c1_i32_153 : BitVec 32 := 1#32
  let v213 : BitVec 32 := Scalar.andi v212 c1_i32_153
  let c64_i32_154 : BitVec 32 := 64#32
  let v214 : BitVec 32 := Scalar.muli v213 c64_i32_154
  let v215 : BitVec 32 := Scalar.subi v162 v214
  let c0_i32_160 : BitVec 32 := 0#32
  ![v215.toNat, 0]
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_155 : BitVec 32 := 2#32
  let v216 : BitVec 32 := Scalar.xori v2 c2_i32_155
  let c1_i32_158 : BitVec 32 := 1#32
  let v217 : BitVec 32 := Scalar.muli v216 c1_i32_158
  let v218 : BitVec 32 := Scalar.addi c0_i32_159 v217
  v218.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : BitVec 32 := Scalar.subi v2 v2
  let c0_i32_34 : BitVec 32 := 0#32
  let v76 : BitVec 32 := Scalar.shrsi v2 c0_i32_34
  let c1_i32_35 : BitVec 32 := 1#32
  let v77 : BitVec 32 := Scalar.andi v76 c1_i32_35
  let c256_i32_38 : BitVec 32 := 256#32
  let v82 : BitVec 32 := Scalar.muli v77 c256_i32_38
  let v83 : BitVec 32 := Scalar.addi v75 v82
  let c1_i32_70 : BitVec 32 := 1#32
  let v117 : BitVec 32 := Scalar.shrsi v2 c1_i32_70
  let c1_i32_71 : BitVec 32 := 1#32
  let v118 : BitVec 32 := Scalar.andi v117 c1_i32_71
  let c128_i32_74 : BitVec 32 := 128#32
  let v123 : BitVec 32 := Scalar.muli v118 c128_i32_74
  let v124 : BitVec 32 := Scalar.addi v83 v123
  let c2_i32_103 : BitVec 32 := 2#32
  let v155 : BitVec 32 := Scalar.shrsi v2 c2_i32_103
  let c1_i32_104 : BitVec 32 := 1#32
  let v156 : BitVec 32 := Scalar.andi v155 c1_i32_104
  let c64_i32_107 : BitVec 32 := 64#32
  let v161 : BitVec 32 := Scalar.muli v156 c64_i32_107
  let v162 : BitVec 32 := Scalar.addi v124 v161
  let c2_i32_152 : BitVec 32 := 2#32
  let v212 : BitVec 32 := Scalar.shrsi v2 c2_i32_152
  let c1_i32_153 : BitVec 32 := 1#32
  let v213 : BitVec 32 := Scalar.andi v212 c1_i32_153
  let c64_i32_154 : BitVec 32 := 64#32
  let v214 : BitVec 32 := Scalar.muli v213 c64_i32_154
  let v215 : BitVec 32 := Scalar.subi v162 v214
  let c1_i32_173 : BitVec 32 := 1#32
  let v235 : BitVec 32 := Scalar.shrsi v2 c1_i32_173
  let c1_i32_174 : BitVec 32 := 1#32
  let v236 : BitVec 32 := Scalar.andi v235 c1_i32_174
  let c128_i32_175 : BitVec 32 := 128#32
  let v237 : BitVec 32 := Scalar.muli v236 c128_i32_175
  let v238 : BitVec 32 := Scalar.subi v215 v237
  let c0_i32_181 : BitVec 32 := 0#32
  ![v238.toNat, 0]
def k0_dev9 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_176 : BitVec 32 := 1#32
  let v239 : BitVec 32 := Scalar.xori v2 c1_i32_176
  let c1_i32_179 : BitVec 32 := 1#32
  let v240 : BitVec 32 := Scalar.muli v239 c1_i32_179
  let v241 : BitVec 32 := Scalar.addi c0_i32_180 v240
  v241.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 70
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S16x256x512, .bf16⟩
  | .hbm, ⟨4, _⟩ => ⟨S256x512, .bf16⟩
  | .hbm, ⟨5, _⟩ => ⟨S512x256, .f32⟩
  | .hbm, ⟨6, _⟩ => ⟨S256x16, .f32⟩
  | .hbm, ⟨7, _⟩ => ⟨S512x16, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x16, .f32⟩
  | .hbm, ⟨12, _⟩ => ⟨S512x16, .f32⟩
  | .hbm, ⟨13, _⟩ => ⟨S512x16, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x16, .f32⟩
  | .hbm, ⟨18, _⟩ => ⟨S512x16, .f32⟩
  | .hbm, ⟨19, _⟩ => ⟨S256x512, .f32⟩
  | .hbm, ⟨20, _⟩ => ⟨S512x512, .f32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S_, .i32⟩
  | .hbm, ⟨25, _⟩ => ⟨S512x1, .i32⟩
  | .hbm, ⟨26, _⟩ => ⟨S512x1, .i32⟩
  | .hbm, ⟨27, _⟩ => ⟨S512x1, .i32⟩
  | .hbm, ⟨28, _⟩ => ⟨S512x1x1, .i32⟩
  | .hbm, ⟨29, _⟩ => ⟨S1, .i32⟩
  | .hbm, ⟨30, _⟩ => ⟨S_, .i32⟩
  | .hbm, ⟨31, _⟩ => ⟨S512x1x1, .i32⟩
  | .hbm, ⟨32, _⟩ => ⟨S512x1x1, .i1⟩
  | .hbm, ⟨33, _⟩ => ⟨S1x1x1, .i32⟩
  | .hbm, ⟨34, _⟩ => ⟨S512x1x1, .i32⟩
  | .hbm, ⟨35, _⟩ => ⟨S512x1x1, .i1⟩
  | .hbm, ⟨36, _⟩ => ⟨S512x1x1, .i1⟩
  | .hbm, ⟨37, _⟩ => ⟨S_, .i1⟩
  | .hbm, ⟨38, _⟩ => ⟨S512x1, .i1⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S16x256x512, .f32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S512x256x512, .f32⟩
  | .hbm, ⟨54, _⟩ => ⟨S512x512, .f32⟩
  | .hbm, ⟨55, _⟩ => ⟨S_, .i32⟩
  | .hbm, ⟨56, _⟩ => ⟨S512x1, .i32⟩
  | .hbm, ⟨57, _⟩ => ⟨S512x1, .i1⟩
  | .hbm, ⟨58, _⟩ => ⟨S_, .i32⟩
  | .hbm, ⟨59, _⟩ => ⟨S512x1, .i32⟩
  | .hbm, ⟨60, _⟩ => ⟨S512x1, .i1⟩
  | .hbm, ⟨61, _⟩ => ⟨S512x1, .i1⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S_, .f32⟩
  | .hbm, ⟨66, _⟩ => ⟨S512x512, .i1⟩
  | .hbm, ⟨67, _⟩ => ⟨S512x512, .f32⟩
  | .hbm, ⟨68, _⟩ => ⟨S512x512, .f32⟩
  | .hbm, ⟨69, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_2 : Ref sig .tc := ⟨.hbm, 55, rfl⟩
abbrev main_v25 : Ref sig .tc := ⟨.hbm, 56, rfl⟩
abbrev main_v26 : Ref sig .tc := ⟨.hbm, 57, rfl⟩
abbrev main_c_3 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_4 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v32 : Ref sig .tc := ⟨.hbm, 68, rfl⟩
abbrev main_v33 : Ref sig .tc := ⟨.hbm, 69, rfl⟩

abbrev nD : Nat := 1
abbrev τ : Topo := Topo.v7x

variable {F : FTy → Type} [FloatOps F]
-- ==== Proof.Mesh.lean ====
/-
The hypercube of eight devices, the row blocks of the accumulator each step works on, and the
buffers' parts the transfers read and write.

A device `c` pairs, in round `r`, with the device whose number differs in bit `r`. Round 0 keeps half
of the 512 rows, round 1 half of that half, round 2 half of that again; which half is the device's bit.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.ValueKit.Geometry
public import Idealize.ShloMosaic.Lib.ViewIndex
public import Idealize.ShloMosaic.Lib.Tactic

@[expose] public section

set_option maxRecDepth 16384

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Partners -/

set_option backward.proofsInPublic true in
/-- The partner of device `c` in round `r`: the device whose number differs in bit `r`. -/
def peer (r : Fin 3) (c : Dev nD) : Dev nD := ⟨(c.val ^^^ 2 ^ r.val) % 8, Nat.mod_lt _ (by decide)⟩

/-- Pairing is mutual. -/
theorem peer_peer (r : Fin 3) (c : Dev nD) : peer r (peer r c) = c := by revert r c; decide
/-- Different rounds pair a device with different partners. -/
theorem peer_inj (r r' : Fin 3) (c : Dev nD) (h : peer r c = peer r' c) : r = r' := by revert r r' c; decide

/-- The pairing of round `r` as a permutation of the devices. -/
def swap (r : Fin 3) : Dev nD ≃ Dev nD := ⟨peer r, peer r, peer_peer r, peer_peer r⟩

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 2 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 0 c := by revert c; decide +kernel

/-! ## Row offsets -/

/-- The rows kept in round 0 start at 256 times the device's lowest bit; -/
theorem off2_eq (c : Dev nD) : k0_off2 c = ![c.val % 2 * 256, 0] := by revert c; decide +kernel
/-- those kept in round 1 at that plus 128 times the next bit; -/
theorem off4_eq (c : Dev nD) : k0_off4 c = ![c.val % 2 * 256 + c.val / 2 % 2 * 128, 0] := by revert c; decide +kernel
/-- those kept in round 2 at that plus 64 times the highest bit. -/
theorem off6_eq (c : Dev nD) : k0_off6 c = ![c.val % 2 * 256 + c.val / 2 % 2 * 128 + c.val / 4 % 2 * 64, 0] := by
  revert c; decide +kernel
/-- The rows sent in a halving round are the rows the partner keeps, -/
theorem off1_eq (c : Dev nD) : k0_off1 c = k0_off2 (peer 0 c) := by revert c; decide +kernel
theorem off3_eq (c : Dev nD) : k0_off3 c = k0_off4 (peer 1 c) := by revert c; decide +kernel
theorem off5_eq (c : Dev nD) : k0_off5 c = k0_off6 (peer 2 c) := by revert c; decide +kernel
/-- and those sent in a doubling round are the rows kept in the halving round of the same partner. -/
theorem off7_eq (c : Dev nD) : k0_off7 c = k0_off6 c := by revert c; decide +kernel
theorem off8_eq (c : Dev nD) : k0_off8 c = k0_off4 c := by revert c; decide +kernel
theorem off9_eq (c : Dev nD) : k0_off9 c = k0_off2 c := by revert c; decide +kernel

/-! ## The buffers' parts -/

/-- The accumulator and the landing buffer, whole. -/
abbrev accM : Memref sig .tc .vmem S512x512 .bf16 := Memref.whole cc0_scratch0
abbrev rcvM : Memref sig .tc .vmem S3x256x512 .bf16 := Memref.whole cc0_scratch1

/-- The accumulator's rows kept after round 0, 1, 2. -/
abbrev aw0 (c : Dev nD) : Memref sig .tc .vmem S256x512 .bf16 :=
  accM.slice (Rect.unit (s := S512x512) (k0_off2 c) S256x512.size (k0_off2_inb c)) (fun _ => rfl)
abbrev aw1 (c : Dev nD) : Memref sig .tc .vmem S128x512 .bf16 :=
  accM.slice (Rect.unit (s := S512x512) (k0_off4 c) S128x512.size (k0_off4_inb c)) (fun _ => rfl)
abbrev aw2 (c : Dev nD) : Memref sig .tc .vmem S64x512 .bf16 :=
  accM.slice (Rect.unit (s := S512x512) (k0_off6 c) S64x512.size (k0_off6_inb c)) (fun _ => rfl)

/-- The landing buffer's part of each halving round. -/
abbrev rs0 : Memref sig .tc .vmem S256x512 .bf16 :=
  (rcvM.slice (Rect.unit (s := S3x256x512) ![0, 0, 0] S1x256x512.size inb_S3x256x512_S1x256x512_0_0_0) (fun _ => rfl)).squeeze S256x512 squeezes_S1x256x512_S256x512
abbrev rs1 : Memref sig .tc .vmem S128x512 .bf16 :=
  (rcvM.slice (Rect.unit (s := S3x256x512) ![1, 0, 0] S1x128x512.size inb_S3x256x512_S1x128x512_1_0_0) (fun _ => rfl)).squeeze S128x512 squeezes_S1x128x512_S128x512
abbrev rs2 : Memref sig .tc .vmem S64x512 .bf16 :=
  (rcvM.slice (Rect.unit (s := S3x256x512) ![2, 0, 0] S1x64x512.size inb_S3x256x512_S1x64x512_2_0_0) (fun _ => rfl)).squeeze S64x512 squeezes_S1x64x512_S64x512

/-! ### Their elements -/

theorem mem_aw0 (c : Dev nD) (i : S512x512.Idx) : i ∈ (aw0 c).view.set ↔ (i (0 : Fin 2)).val / 256 = c.val % 2 := by
  have h0 : (i (0 : Fin 2)).val < 512 := (i (0 : Fin 2)).isLt
  have h1 : (i (1 : Fin 2)).val < 512 := (i (1 : Fin 2)).isLt
  have hs : (aw0 c).view.set = (Rect.unit (s := S512x512) (k0_off2 c) S256x512.size (k0_off2_inb c)).set :=
    View.set_slice_whole _ _
  rw [hs, Rect.mem_set_unit, off2_eq]
  refine (Fin.forall_fin_two).trans ?_
  simp [S256x512]
  omega

theorem mem_aw1 (c : Dev nD) (i : S512x512.Idx) :
    i ∈ (aw1 c).view.set ↔ (i (0 : Fin 2)).val / 128 = c.val % 2 * 2 + c.val / 2 % 2 := by
  have h0 : (i (0 : Fin 2)).val < 512 := (i (0 : Fin 2)).isLt
  have h1 : (i (1 : Fin 2)).val < 512 := (i (1 : Fin 2)).isLt
  have hs : (aw1 c).view.set = (Rect.unit (s := S512x512) (k0_off4 c) S128x512.size (k0_off4_inb c)).set :=
    View.set_slice_whole _ _
  rw [hs, Rect.mem_set_unit, off4_eq]
  refine (Fin.forall_fin_two).trans ?_
  simp [S128x512]
  omega

theorem mem_aw2 (c : Dev nD) (i : S512x512.Idx) :
    i ∈ (aw2 c).view.set ↔ (i (0 : Fin 2)).val / 64 = c.val % 2 * 4 + c.val / 2 % 2 * 2 + c.val / 4 % 2 := by
  have h0 : (i (0 : Fin 2)).val < 512 := (i (0 : Fin 2)).isLt
  have h1 : (i (1 : Fin 2)).val < 512 := (i (1 : Fin 2)).isLt
  have hs : (aw2 c).view.set = (Rect.unit (s := S512x512) (k0_off6 c) S64x512.size (k0_off6_inb c)).set :=
    View.set_slice_whole _ _
  rw [hs, Rect.mem_set_unit, off6_eq]
  refine (Fin.forall_fin_two).trans ?_
  simp [S64x512]
  omega

theorem mem_rs0 (i : S3x256x512.Idx) : i ∈ rs0.view.set → (i (0 : Fin 3)).val = 0 := by
  have hs : rs0.view.set = (Rect.unit (s := S3x256x512) ![0, 0, 0] S1x256x512.size inb_S3x256x512_S1x256x512_0_0_0).set :=
    (View.set_reshape _ _).trans (View.set_slice_whole _ _)
  rw [hs, Rect.mem_set_unit]
  intro h
  have := h 0
  simp [S1x256x512] at this
  omega
theorem mem_rs1 (i : S3x256x512.Idx) : i ∈ rs1.view.set → (i (0 : Fin 3)).val = 1 := by
  have hs : rs1.view.set = (Rect.unit (s := S3x256x512) ![1, 0, 0] S1x128x512.size inb_S3x256x512_S1x128x512_1_0_0).set :=
    (View.set_reshape _ _).trans (View.set_slice_whole _ _)
  rw [hs, Rect.mem_set_unit]
  intro h
  have := h 0
  simp [S1x128x512] at this
  omega
theorem mem_rs2 (i : S3x256x512.Idx) : i ∈ rs2.view.set → (i (0 : Fin 3)).val = 2 := by
  have hs : rs2.view.set = (Rect.unit (s := S3x256x512) ![2, 0, 0] S1x64x512.size inb_S3x256x512_S1x64x512_2_0_0).set :=
    (View.set_reshape _ _).trans (View.set_slice_whole _ _)
  rw [hs, Rect.mem_set_unit]
  intro h
  have := h 0
  simp [S1x64x512] at this
  omega

/-! ### How the parts fit -/

/-- The bits of a device's partner: round `r` changes bit `r` and no other. -/
theorem peer0_bits (c : Dev nD) : (peer 0 c).val % 2 = 1 - c.val % 2 ∧ (peer 0 c).val / 2 % 2 = c.val / 2 % 2 ∧ (peer 0 c).val / 4 % 2 = c.val / 4 % 2 := by
  revert c; decide
theorem peer1_bits (c : Dev nD) : (peer 1 c).val % 2 = c.val % 2 ∧ (peer 1 c).val / 2 % 2 = 1 - c.val / 2 % 2 ∧ (peer 1 c).val / 4 % 2 = c.val / 4 % 2 := by
  revert c; decide
theorem peer2_bits (c : Dev nD) : (peer 2 c).val % 2 = c.val % 2 ∧ (peer 2 c).val / 2 % 2 = c.val / 2 % 2 ∧ (peer 2 c).val / 4 % 2 = 1 - c.val / 4 % 2 := by
  revert c; decide

/-- The rows kept in round 0 by the two partners are disjoint and make up the accumulator; -/
theorem aw0_disj (c : Dev nD) : Disjoint (aw0 c).view.set (aw0 (peer 0 c)).view.set := by
  refine Finset.disjoint_left.mpr fun i h h' => ?_
  rw [mem_aw0] at h h'
  have := peer0_bits c
  omega
theorem aw0_union (c : Dev nD) : (aw0 c).view.set ∪ (aw0 (peer 0 c)).view.set = Finset.univ := by
  refine Finset.eq_univ_iff_forall.mpr fun i => Finset.mem_union.mpr ?_
  rw [mem_aw0, mem_aw0]
  have h0 : (i (0 : Fin 2)).val < 512 := (i (0 : Fin 2)).isLt
  have := peer0_bits c
  omega
/-- those kept in round 1 by the partners of round 1 make up the rows kept in round 0; -/
theorem aw1_disj (c : Dev nD) : Disjoint (aw1 c).view.set (aw1 (peer 1 c)).view.set := by
  refine Finset.disjoint_left.mpr fun i h h' => ?_
  rw [mem_aw1] at h h'
  have := peer1_bits c
  omega
theorem aw1_union (c : Dev nD) : (aw1 c).view.set ∪ (aw1 (peer 1 c)).view.set = (aw0 c).view.set := by
  ext i
  have h0 : (i (0 : Fin 2)).val < 512 := (i (0 : Fin 2)).isLt
  rw [Finset.mem_union, mem_aw1, mem_aw1, mem_aw0]
  have := peer1_bits c
  omega
/-- and those kept in round 2 by the partners of round 2 make up the rows kept in round 1. -/
theorem aw2_disj (c : Dev nD) : Disjoint (aw2 c).view.set (aw2 (peer 2 c)).view.set := by
  refine Finset.disjoint_left.mpr fun i h h' => ?_
  rw [mem_aw2] at h h'
  have := peer2_bits c
  omega
theorem aw2_union (c : Dev nD) : (aw2 c).view.set ∪ (aw2 (peer 2 c)).view.set = (aw1 c).view.set := by
  ext i
  have h0 : (i (0 : Fin 2)).val < 512 := (i (0 : Fin 2)).isLt
  rw [Finset.mem_union, mem_aw2, mem_aw2, mem_aw1]
  have := peer2_bits c
  omega

theorem rs01_disj : Disjoint rs0.view.set rs1.view.set :=
  Finset.disjoint_left.mpr fun i h h' => by have a := mem_rs0 i h; have b := mem_rs1 i h'; omega
theorem rs02_disj : Disjoint rs0.view.set rs2.view.set :=
  Finset.disjoint_left.mpr fun i h h' => by have a := mem_rs0 i h; have b := mem_rs2 i h'; omega
theorem rs12_disj : Disjoint rs1.view.set rs2.view.set :=
  Finset.disjoint_left.mpr fun i h h' => by have a := mem_rs1 i h; have b := mem_rs2 i h'; omega

/-! ## What the accumulator holds

The contents are followed as whole arrays; after each halving round only the rows the device keeps
mean anything. -/

section Contents

variable (m : (ℓ : Loc nD τ sig) → Buf (Elt F) ℓ)

/-- The blocks device `c` computes from: the tokens, the router's weights, the routed expert of each token, its two
    experts' weights and the shared expert's weights. -/
def xs (c : Dev nD) : Vec F S512x256 .bf16 := iblk m c 0 t0_0
def rws (c : Dev nD) : Vec F S256x16 .bf16 := iblk m c 1 t0_0
def ids (c : Dev nD) : Vec F S512x1 .i32 := iblk m c 2 t0_0
def ews (c : Dev nD) : Vec F S2x256x512 .bf16 := iblk m c 3 t0_0
def sws (c : Dev nD) : Vec F S256x512 .bf16 := iblk m c 4 t0_0

/-- The number device `c` finds its experts by. -/
abbrev rank (c : Dev nD) : BitVec 32 := Scalar.remsi (Scalar.divsi (Dev.word c) 1#32) 8#32

/-- The two experts' weights of device `c`, as loaded. -/
def ew0 (c : Dev nD) : Vec F S1x256x512 .bf16 :=
  (Memref.whole cc0_stg3_0 : Memref sig .tc .vmem S2x256x512 .bf16).view.readAt (Elt F) (Rect.unit (s := S2x256x512) ![0, 0, 0] S1x256x512.size inb_S2x256x512_S1x256x512_0_0_0).toLoadRect (ews m c)
def ew1 (c : Dev nD) : Vec F S1x256x512 .bf16 :=
  (Memref.whole cc0_stg3_0 : Memref sig .tc .vmem S2x256x512 .bf16).view.readAt (Elt F) (Rect.unit (s := S2x256x512) ![1, 0, 0] S1x256x512.size inb_S2x256x512_S1x256x512_1_0_0).toLoadRect (ews m c)

/-- Device `c`'s own partial sum: the contribution of its two experts. -/
def part (c : Dev nD) : Vec F S512x512 .bf16 :=
  k0_pay5 (rank c) (k0_pay2 (xs m c)) (k0_pay3 (xs m c) (rws m c)) (k0_pay4 (ids m c)) (iota .tc S512x16 32 [1] iota_S512x16_d1_w32) (ew0 m c) (ew1 m c)
/-- The accumulator's contents at first and after each halving round. -/
def acc0 (c : Dev nD) : Vec F S512x512 .bf16 := k0_pay6 (part m c)
def acc1 (c : Dev nD) : Vec F S512x512 .bf16 := addf (acc0 m c) (acc0 m (peer 0 c))
def acc2 (c : Dev nD) : Vec F S512x512 .bf16 := addf (acc1 m c) (acc1 m (peer 1 c))
def acc3 (c : Dev nD) : Vec F S512x512 .bf16 := addf (acc2 m c) (acc2 m (peer 2 c))

/-- The device that ends the halving rounds with a given element. -/
def owner (i : S512x512.Idx) : Dev nD :=
  ⟨((i (0 : Fin 2)).val / 256 % 2 + 2 * ((i (0 : Fin 2)).val / 128 % 2) + 4 * ((i (0 : Fin 2)).val / 64 % 2)) % 8, Nat.mod_lt _ (by decide)⟩
/-- The reduced array: each element as its owner left it. -/
def total : Vec F S512x512 .bf16 := fun i => acc3 m (owner i) i

/-- The shared expert's contribution. -/
def shared (c : Dev nD) : FVec F S512x512 .f32 := k0_pay7 (k0_pay2 (xs m c)) (sws m c)
/-- The kernel's result on device `c`. -/
def outs (c : Dev nD) : Vec F S512x512 .f32 := k0_pay1 (shared m c) (total m)

theorem owner_of_mem (c : Dev nD) (i : S512x512.Idx) (h : i ∈ (aw2 c).view.set) : owner i = c := by
  rw [mem_aw2] at h
  have h0 : (i (0 : Fin 2)).val < 512 := (i (0 : Fin 2)).isLt
  have hc : c.val < 8 := c.isLt
  refine Fin.ext ?_
  show (_ : ℕ) % 8 = _
  have e1 : (i (0 : Fin 2)).val / 128 = (i (0 : Fin 2)).val / 64 / 2 := by omega
  have e2 : (i (0 : Fin 2)).val / 256 = (i (0 : Fin 2)).val / 64 / 4 := by omega
  rw [e1, e2, h]
  rcases Nat.mod_two_eq_zero_or_one c.val with a | a <;> rcases Nat.mod_two_eq_zero_or_one (c.val / 2) with b | b <;>
    rcases Nat.mod_two_eq_zero_or_one (c.val / 4) with d | d <;> rw [a, b, d] <;> omega
theorem total_eq (c : Dev nD) : ∀ i ∈ (aw2 c).view.set, acc3 m c i = total m i := fun i hi => by
  unfold total; rw [owner_of_mem c i hi]

/-! ### One addition of a halving round

The rows kept, plus what landed of the partner's same rows, stored over the rows kept. -/

theorem stored0 (c : Dev nD) (f : Vec F S3x256x512 .bf16) (hf : rs0.view.read (Elt F) f = (aw0 c).view.read (Elt F) (acc0 m (peer 0 c))) :
    ∀ i ∈ (aw0 c).view.set,
      (accM.access (Rect.unit (s := S512x512) (k0_off2 c) S256x512.size (k0_off2_inb c)) : View sig .tc _ _ _).write (Elt F) (acc0 m c)
        (k0_pay8 (accM.view.readAt (Elt F) (Rect.unit (s := S512x512) (k0_off2 c) S256x512.size (k0_off2_inb c)).toLoadRect (acc0 m c))
          (rcvM.view.readAt (Elt F) (Rect.unit (s := S3x256x512) ![0, 0, 0] S1x256x512.size inb_S3x256x512_S1x256x512_0_0_0).toLoadRect f)) Finset.univ i
        = acc1 m c i := by
  intro i hi
  obtain ⟨j, -, rfl⟩ := Finset.mem_map.mp hi
  refine (View.write_emb_of_mem _ _ (Finset.mem_univ j)).trans ?_
  unfold k0_pay8
  simp only [shapeCast_self]
  rw [← Memref.read_squeeze_slice rcvM _ (fun _ => rfl) squeezes_S1x256x512_S256x512, hf]
  rfl

theorem stored1 (c : Dev nD) (f : Vec F S3x256x512 .bf16) (hf : rs1.view.read (Elt F) f = (aw1 c).view.read (Elt F) (acc1 m (peer 1 c))) :
    ∀ i ∈ (aw1 c).view.set,
      (accM.access (Rect.unit (s := S512x512) (k0_off4 c) S128x512.size (k0_off4_inb c)) : View sig .tc _ _ _).write (Elt F) (acc1 m c)
        (k0_pay9 (accM.view.readAt (Elt F) (Rect.unit (s := S512x512) (k0_off4 c) S128x512.size (k0_off4_inb c)).toLoadRect (acc1 m c))
          (rcvM.view.readAt (Elt F) (Rect.unit (s := S3x256x512) ![1, 0, 0] S1x128x512.size inb_S3x256x512_S1x128x512_1_0_0).toLoadRect f)) Finset.univ i
        = acc2 m c i := by
  intro i hi
  obtain ⟨j, -, rfl⟩ := Finset.mem_map.mp hi
  refine (View.write_emb_of_mem _ _ (Finset.mem_univ j)).trans ?_
  unfold k0_pay9
  simp only [shapeCast_self]
  rw [← Memref.read_squeeze_slice rcvM _ (fun _ => rfl) squeezes_S1x128x512_S128x512, hf]
  rfl

theorem stored2 (c : Dev nD) (f : Vec F S3x256x512 .bf16) (hf : rs2.view.read (Elt F) f = (aw2 c).view.read (Elt F) (acc2 m (peer 2 c))) :
    ∀ i ∈ (aw2 c).view.set,
      (accM.access (Rect.unit (s := S512x512) (k0_off6 c) S64x512.size (k0_off6_inb c)) : View sig .tc _ _ _).write (Elt F) (acc2 m c)
        (k0_pay10 (accM.view.readAt (Elt F) (Rect.unit (s := S512x512) (k0_off6 c) S64x512.size (k0_off6_inb c)).toLoadRect (acc2 m c))
          (rcvM.view.readAt (Elt F) (Rect.unit (s := S3x256x512) ![2, 0, 0] S1x64x512.size inb_S3x256x512_S1x64x512_2_0_0).toLoadRect f)) Finset.univ i
        = acc3 m c i := by
  intro i hi
  obtain ⟨j, -, rfl⟩ := Finset.mem_map.mp hi
  refine (View.write_emb_of_mem _ _ (Finset.mem_univ j)).trans ?_
  unfold k0_pay10
  simp only [shapeCast_self]
  rw [← Memref.read_squeeze_slice rcvM _ (fun _ => rfl) squeezes_S1x64x512_S64x512, hf]
  rfl

end Contents

end Cert.Cube

end
-- ==== Proof.Schedule.lean ====
/-
The protocol: the semaphores of a device, what each is signalled with and what the signal hands over, what
every device owes at launch, and the order of the waits.

Every device has thirteen cells: the barrier, six send and six receive semaphores. Each is used for one round.
A barrier is signalled by the three partners, one unit each, and every signal hands over the part of the
signaller's landing buffer that this partner will write to. A transfer of a halving round hands its source along
with what landed, so that the source is the receiver's to write back to in the doubling round of the same pair.
-/
module

public import proofs.«01_k».proof.Proof.Mesh

@[expose] public section

set_option maxRecDepth 16384

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds and the cube's, whose duties are numbered -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The barrier semaphore. -/
abbrev barS : Sem sig := (SemArray.scalar (sig.barrier 0 rfl) : Sems sig S_).sem

/-- A device's semaphores: 0 the barrier, 1 to 6 the send and 7 to 12 the receive semaphores, transfer by transfer. -/
def csem (k : Fin 13) : SemLoc sig := if k = 0 then .reg barS else .dma ⟨k.val + 5, by have := k.isLt; show _ < 18; omega⟩
/-- The cell of device `ck.1`'s semaphore `ck.2`. -/
abbrev kcell (ck : Dev nD × Fin 13) : GSem nD τ sig := ((ck.1 : Thread nD τ), csem ck.2)

/-- The number of a semaphore in `csem`, 13 for any other. -/
def kind : SemLoc sig → ℕ
  | .reg q => if q = barS then 0 else 13
  | .dma q => if 6 ≤ q.val then q.val - 5 else 13

theorem kind_csem (k : Fin 13) : kind (csem k) = k.val := by revert k; decide
theorem csem_injective : Function.Injective csem := fun a b h => Fin.ext (by rw [← kind_csem, ← kind_csem, h])
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## Amounts -/

/-- The credit of a transfer of 256, 128, 64 rows. -/
abbrev N0 : ℕ := (rs0 : Memref sig .tc .vmem S256x512 .bf16).view.dmaCredit
abbrev N1 : ℕ := (rs1 : Memref sig .tc .vmem S128x512 .bf16).view.dmaCredit
abbrev N2 : ℕ := (rs2 : Memref sig .tc .vmem S64x512 .bf16).view.dmaCredit
theorem N0_pos : 0 < N0 := View.dmaCredit_pos _ (by decide)
theorem N1_pos : 0 < N1 := View.dmaCredit_pos _ (by decide)
theorem N2_pos : 0 < N2 := View.dmaCredit_pos _ (by decide)

/-- What one duty of cell `k` counts. -/
def amt : ℕ → ℕ
  | 1 | 4 | 7 | 10 => N0
  | 2 | 5 | 8 | 11 => N1
  | 3 | 6 | 9 | 12 => N2
  | _ => 1
theorem amt_pos (k : ℕ) : 0 < amt k := by
  unfold amt; split <;> first | exact N0_pos | exact N1_pos | exact N2_pos | exact Nat.one_pos

/-! ## What changes hands -/

/-- Part `I` of device `c`'s accumulator, of its landing buffer, at the contents `f`. -/
abbrev accPts (c : Dev nD) (I : Finset S512x512.Idx) (f : Vec F S512x512 .bf16) : sProp 𝕄 :=
  ((c : Thread nD τ).loc cc0_scratch0) ↦[I]{fullShare} f
abbrev rcvPts (c : Dev nD) (I : Finset S3x256x512.Idx) (f : Vec F S3x256x512 .bf16) : sProp 𝕄 :=
  ((c : Thread nD τ).loc cc0_scratch1) ↦[I]{fullShare} f

/-- The landing buffer's part of each round. -/
def slot : Fin 3 → Finset S3x256x512.Idx
  | 0 => rs0.view.set
  | 1 => rs1.view.set
  | 2 => rs2.view.set

/-- What a signal or a landing of cell `k` of device `c` hands over. -/
def pay (k : ℕ) (c : Dev nD) (d : Fin 3) : sProp 𝕄 :=
  match k with
  | 0 => iprop(∃ f, rcvPts (F := F) (peer d c) (slot d) f)
  | 4 => accPts c (aw0 c).view.set (total m)
  | 5 => accPts c (aw1 c).view.set (total m)
  | 6 => accPts c (aw2 c).view.set (total m)
  | 7 => iprop((∃ f, ⌜rs0.view.read (Elt F) f = (aw0 c).view.read (Elt F) (acc0 m (peer 0 c))⌝ ∗ rcvPts c (slot 0) f)
      ∗ accPts (peer 0 c) (aw0 c).view.set (acc0 m (peer 0 c)))
  | 8 => iprop((∃ f, ⌜rs1.view.read (Elt F) f = (aw1 c).view.read (Elt F) (acc1 m (peer 1 c))⌝ ∗ rcvPts c (slot 1) f)
      ∗ accPts (peer 1 c) (aw1 c).view.set (acc1 m (peer 1 c)))
  | 9 => iprop((∃ f, ⌜rs2.view.read (Elt F) f = (aw2 c).view.read (Elt F) (acc2 m (peer 2 c))⌝ ∗ rcvPts c (slot 2) f)
      ∗ accPts (peer 2 c) (aw2 c).view.set (acc2 m (peer 2 c)))
  | 10 => accPts c (aw0 (peer 0 c)).view.set (total m)
  | 11 => accPts c (aw1 (peer 1 c)).view.set (total m)
  | 12 => accPts c (aw2 (peer 2 c)).view.set (total m)
  | _ => iprop(emp)

instance pay_storable (k : ℕ) (c : Dev nD) (d : Fin 3) : BI.Storable (upEmb : UEmb _ 𝕄) (pay m k c d) := by
  unfold pay; split <;> infer_instance

/-- The duties of a cell: the barrier's three, one of any other. -/
def dutiesOf (k : ℕ) : Finset (Fin 3) := if k = 0 then Finset.univ else if k ≤ 12 then {0} else ∅

/-- The schedule: one round, round 0. -/
def sched : Rounds.Schedule (GSem nD τ sig) (Fin 3) 𝕄 where
  duties g r := if r = 0 ∧ g.1.2 = .tc then dutiesOf (kind g.2) else ∅
  unitless _ := False
  amount g _ _ := amt (kind g.2)
  payload g _ d := pay m (kind g.2) g.1.1 d
  amount_pos g _ _ _ := amt_pos _

instance sched_payload_storable (g : GSem nD τ sig) (r : ℕ) (d : Fin 3) :
    BI.Storable (upEmb : UEmb _ 𝕄) ((sched (F := F) m).payload g r d) := pay_storable m _ _ _

section Sched
variable (c : Dev nD) (k : Fin 13)

theorem duties_eq : (sched (F := F) m).duties (kcell (c, k)) 0 = dutiesOf k.val := by
  dsimp only [sched]
  rw [if_pos ⟨rfl, rfl⟩, kind_csem]
theorem duties_later (g : GSem nD τ sig) : ∀ r, 1 ≤ r → (sched (F := F) m).duties g r = ∅ :=
  fun r hr => by dsimp only [sched]; exact if_neg fun h => by omega
theorem amount_eq (d : Fin 3) : (sched (F := F) m).amount (kcell (c, k)) 0 d = amt k.val := by
  show amt (kind (csem k)) = _
  rw [kind_csem]
theorem payload_eq (d : Fin 3) : (sched (F := F) m).payload (kcell (c, k)) 0 d = pay m k.val c d := by
  show pay m (kind (csem k)) c d = _
  rw [kind_csem]

/-- What a cell counts in all. -/
def tot (k : ℕ) : ℕ := (dutiesOf k).card * amt k
theorem expect_eq : (sched (F := F) m).expect (kcell (c, k)) 0 = tot k.val := by
  unfold Schedule.expect Schedule.amountOf
  rw [duties_eq, Finset.sum_congr rfl fun d _ => amount_eq m c k d, Finset.sum_const, smul_eq_mul]
  rfl

theorem rest_eq : bigSep ((sched (F := F) m).duties (kcell (c, k)) 0 \ ∅) (fun d => (sched (F := F) m).payload (kcell (c, k)) 0 d)
    = bigSep (dutiesOf k.val) (fun d => pay m k.val c d) := by
  rw [Finset.sdiff_empty, duties_eq]
  exact bigSep_congr fun d _ => payload_eq m c k d

end Sched

/-! ## What a device owes, and the order of the waits -/

/-- The cells device `c` pays, last payment first: the receive cells of the doubling rounds' partners, those of the
    halving rounds' partners, the partners' barriers. -/
def dcell (c : Dev nD) : ℕ → Dev nD × Fin 13
  | 0 => (peer 0 c, 10)
  | 1 => (peer 1 c, 11)
  | 2 => (peer 2 c, 12)
  | 3 => (peer 2 c, 9)
  | 4 => (peer 1 c, 8)
  | 5 => (peer 0 c, 7)
  | 6 => (peer 2 c, 0)
  | 7 => (peer 1 c, 0)
  | _ => (peer 0 c, 0)
/-- What device `c` owes with `n` payments to go. -/
def owing (c : Dev nD) : ℕ → CellTallies nD τ sig Unit
  | 0 => 0
  | n + 1 => owing c n + tallyAt (kcell (dcell c n)) () (amt (dcell c n).2.val)
abbrev O₀ (c : Dev nD) : CellTallies nD τ sig Unit := owing c 9

theorem owing_pos {c : Dev nD} {n : ℕ} {g : GSem nD τ sig} {u : Unit} (h : 0 < owing c n g u) : ∃ j < n, g = kcell (dcell c j) := by
  induction n with
  | zero => exact absurd h (Nat.lt_irrefl 0)
  | succ n ih =>
    unfold owing at h
    rw [Pi.add_apply, Finsupp.add_apply, tallyAt_apply] at h
    by_cases hg : g = kcell (dcell c n)
    · exact ⟨n, Nat.lt_succ_self n, hg⟩
    · rw [if_neg (fun h' => hg h'.1), Nat.add_zero] at h
      obtain ⟨j, hj, e⟩ := ih h
      exact ⟨j, Nat.lt_succ_of_lt hj, e⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The place of cell `k` in the order: barriers, then the receive cells in the order they are waited on; the send
    cells and the copies between the arrays and the staging buffers first of all. -/
def rankOf : ℕ → ℕ
  | 0 => 1 | 7 => 2 | 8 => 3 | 9 => 4 | 12 => 5 | 11 => 6 | 10 => 7 | _ => 0
def lv (g : GSem nD τ sig) (_ : Unit) : ℕ := rankOf (kind g.2)
theorem lv_kcell (ck : Dev nD × Fin 13) (u : Unit) : lv (kcell ck) u = rankOf ck.2.val := by
  show rankOf (kind (csem ck.2)) = _
  rw [kind_csem]

/-- A device with `n` payments to go may wait on a semaphore that comes before all of them. -/
theorem mayWait (c : Dev nD) (sm : SemLoc sig) (n : ℕ) (h : ∀ j < n, rankOf (kind sm) < rankOf (dcell c j).2.val) :
    (levAts L lv : sProp 𝕄) ⊢ MayWait (c : Thread nD τ) sm () (owing c n) :=
  MayOwe.of_cut (L := L) (lev := lv) (rankOf (kind sm)) (fun p hp => by rw [Finset.mem_singleton.mp hp, L_tc]; exact Finset.mem_singleton_self _)
    (fun g u hg => by obtain ⟨j, -, rfl⟩ := owing_pos hg; rw [L_tc]; exact Finset.mem_singleton_self _)
    (fun p hp => by rw [Finset.mem_singleton.mp hp]; exact le_refl _)
    (fun g u hg => by obtain ⟨j, hj, rfl⟩ := owing_pos hg; rw [lv_kcell]; exact h j hj)

end Cert.Cube

end
-- ==== Proof.Steps.lean ====
/-
The rules for one signal, one wait, one transfer and one addition of the kernel, at the protocol's cells.
-/
module

public import proofs.«01_k».proof.Proof.Schedule

@[expose] public section

set_option maxRecDepth 16384

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What every device knows throughout: every cell's invariant, under the names `K`, that every cell has begun, and the
    order of the cells. -/
def know (K : Dev nD × Fin 13 → ℕ) : sProp 𝕄 :=
  iprop((bigSep Finset.univ fun ck : Dev nD × Fin 13 => cellInv ER (sched m) (K ck) (kcell ck))
    ∗ (bigSep Finset.univ fun ck : Dev nD × Fin 13 => reached ER (kcell ck) 0) ∗ levAts L lv)

instance know_persistent (K : Dev nD × Fin 13 → ℕ) : BI.Persistent (know m K) := by unfold know; infer_instance

theorem know_inv (K : Dev nD × Fin 13 → ℕ) (ck : Dev nD × Fin 13) : know m K ⊢ cellInv ER (sched m) (K ck) (kcell ck) := by
  unfold know
  exact sep_elim_left.trans (bigSep_elim (Finset.mem_univ ck))
theorem know_reached (K : Dev nD × Fin 13 → ℕ) (ck : Dev nD × Fin 13) : know m K ⊢ reached ER (kcell ck) 0 := by
  unfold know
  exact sep_elim_right.trans (sep_elim_left.trans (bigSep_elim (Finset.mem_univ ck)))
theorem know_lev (K : Dev nD × Fin 13 → ℕ) : know m K ⊢ levAts L lv := by
  unfold know
  iintro ⟨-, -, #HL⟩
  iexact HL

/-- Device `c` with `n` payments to go, whatever it waited on so far. -/
def owesE (c : Dev nD) (n : ℕ) : sProp 𝕄 := iprop(∃ W, owes (c : Thread nD τ) (owing c n) W)

theorem dcell_kind (c : Dev nD) (j : ℕ) : (dcell c j).2 = (dcell 0 j).2 := by
  unfold dcell; split <;> rfl

/-- `1 + s` and `7 + s` are transfer `s`'s cells. -/
theorem duty_mem (c : Dev nD) (k : Fin 13) (h : k ≠ 0) : (0 : Fin 3) ∈ (sched (F := F) m).duties (kcell (c, k)) 0 := by
  rw [duties_eq]
  revert h; revert k; decide
theorem tot_eq (k : Fin 13) (h : k ≠ 0) : tot k.val = amt k.val := by
  have : (dutiesOf k.val).card = 1 := by revert h; revert k; decide
  unfold tot; rw [this, Nat.one_mul]

theorem owing_succ (c : Dev nD) (j : ℕ) : owing c (j + 1) = owing c j + tallyAt (kcell (dcell c j)) () (amt (dcell c j).2.val) := rfl

/-- What a signal hands over is the signaller's part of its landing buffer. -/
theorem signal_pay (c : Dev nD) (r : Fin 3) :
    iprop(∃ f, rcvPts (F := F) c (slot r) f) ⊢ (sched m).payload ((peer r c : Thread nD τ), SemLoc.reg barS) 0 r := by
  refine Entails.of_eq ((?_ : _ = pay m 0 (peer r c) r).trans (payload_eq m (peer r c) 0 r).symm)
  show _ = iprop(∃ f, rcvPts (F := F) (peer r (peer r c)) (slot r) f)
  rw [peer_peer]

section Rules
variable (K : Dev nD × Fin 13 → ℕ)

/-- The signal to the partner of round `r`, which hands it the part of the landing buffer it will write to. -/
theorem signal_step {α : Type} {Q : α → sProp 𝕄} {k : PUnit → Prog (TpuEff nD τ sig (Elt F) Λ₀ .tc) α}
    (c n : Dev nD) (r : Fin 3) (j : ℕ) (hn : n = peer r c) (hd : dcell c j = (peer r c, 0)) {k' : ℕ} (hk : k' = 1) :
    iprop(know m K ∗ owesE c (j + 1) ∗ dutyTok ER (kcell (peer r c, 0)) 0 r ∗ ∃ f, rcvPts c (slot r) f)
      ⊢ iprop((owesE c j -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS k') k) Q) := by
  subst hn hk
  unfold owesE
  iintro ⟨#HK, ⟨%W, HO⟩, Ht, Hs⟩ Hk
  iapply (Rounds.wp_signal 𝒱₀ ER (sched m) (c : Thread nD τ) none (dst := (peer r c : Thread nD τ)) (sem := barS) (κ := K (peer r c, 0)) (r := 0)
      (d := r) (by rw [show ((peer r c : Thread nD τ), SemLoc.reg barS) = kcell (peer r c, 0) from rfl, duties_eq]; exact Finset.mem_univ _)
      (amount_eq m (peer r c) 0 r) () (O₀ := owing c (j + 1)) (owing c j) (by rw [owing_succ, hd]; rfl)) $$ [HO Ht Hs]
  · isplitr; · iapply (know_inv m K (peer r c, 0)); iexact HK
    isplitl [HO]; · iexact HO
    isplitl [Ht]; · iexact Ht
    isplitl [Hs]
    · iapply (signal_pay m c r); iexact Hs
    iapply (know_reached m K (peer r c, 0)); iexact HK
  iintro HO
  iapply Hk
  iexists W; iexact HO

/-- A wait on cell `k'` for all it counts, with `n` payments to go, all of them later in the order: the wait hands over
    what the cell's duties hand over. -/
theorem wait_step {α : Type} {Q : α → sProp 𝕄} {k : PUnit → Prog (TpuEff nD τ sig (Elt F) Λ₀ .tc) α}
    (c : Dev nD) (κ : Fin 13) {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = csem κ) (hk : k' = tot κ.val) (n : ℕ) (hn : ∀ j < n, rankOf κ.val < rankOf (dcell 0 j).2.val) :
    iprop(know m K ∗ cred (tallyAt (kcell (c, κ)) () (tot κ.val)) ∗ owesE c n ∗ atPos ER (kcell (c, κ)) 0 ∅ 0)
      ⊢ iprop(((owesE c n ∗ atPos ER (kcell (c, κ)) 1 ∅ 0 ∗ bigSep (dutiesOf κ.val) (fun d => pay m κ.val c d))
            -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  subst hsm hk
  unfold owesE
  iintro ⟨#HK, Hc, ⟨%W, HO⟩, Ha⟩ Hk
  iapply (Rounds.wp_wait_rest_token 𝒱₀ ER (sched m) (c : Thread nD τ) none (κ := K (c, κ)) hw (Set.mem_univ _) () (O := owing c n) (W := W) (R := 0) (m := 0) (T := ∅)
      (by rw [Nat.zero_add]; exact (expect_eq m c κ).symm)) $$ [Hc HO Ha]
  · isplitr; · iapply (know_inv m K (c, κ)); iexact HK
    isplitl [Hc]; · iexact Hc
    isplitl [HO]; · iexact HO
    isplitr
    · iapply (mayWait (F := F) c (csem κ) n fun j hj => by rw [kind_csem, dcell_kind]; exact hn j hj)
      iapply (know_lev m K); iexact HK
    iexact Ha
  iintro ⟨HO, Ha, -, Hp⟩
  iapply Hk
  isplitl [HO]; · iexists _; iexact HO
  isplitl [Ha]; · iexact Ha
  iapply (Entails.of_eq (rest_eq m c κ)); iexact Hp

/-- A transfer of a halving round: cell `ks` of the sender, cell `kr` of the receiver `p`, which gets the source with
    what landed. -/
theorem land_step {α : Type} {Q : α → sProp 𝕄} {k : PUnit → Prog (TpuEff nD τ sig (Elt F) Λ₀ .tc) α}
    (c n p : Dev nD) (ks kr : Fin 13) (j : ℕ) (hn : n = p) (hd : dcell c j = (p, kr)) {S : Shape} {sS sem : SemLoc sig}
    {src : Memref sig .tc .vmem S .bf16} {dst : Memref sig .tc .vmem S .bf16} (hS : sS = csem ks) (hR : sem = csem kr)
    {hsc : (dst : Memref sig (Dev.tc n : Thread nD τ).2.kind .vmem S .bf16).view.ref.isScScratch = false}
    {hsrc : src.view.WordExact} {hdst : dst.view.WordExact}
    {hsem : DmaTarget.Typed .vmem sem (.remote (Dev.tc n : Thread nD τ) dst sS hsc)}
    (hks : ks ≠ 0) (hkr : kr ≠ 0) (hN : dst.view.amount sem = amt kr.val) (hNs : amt ks.val = amt kr.val)
    {fs : Buf (Elt F) (src.view.loc (c : Thread nD τ))} {fd : Buf (Elt F) (dst.view.loc (p : Thread nD τ))}
    (hp₁ : (emp : sProp 𝕄) ⊢ pay m ks.val c 0)
    (hp₂ : iprop((dst.view.loc (p : Thread nD τ) ↦[dst.view.set]{fullShare} (dst.view.write (Elt F) fd (src.view.read (Elt F) fs) Finset.univ))
        ∗ (src.view.loc (c : Thread nD τ) ↦[src.view.set]{fullShare} fs)) ⊢ pay m kr.val p 0) :
    iprop(know m K ∗ (src.view.loc (c : Thread nD τ) ↦[src.view.set]{fullShare} fs) ∗ (dst.view.loc (p : Thread nD τ) ↦[dst.view.set]{fullShare} fd)
        ∗ owesE c (j + 1) ∗ dutyTok ER (kcell (c, ks)) 0 0 ∗ dutyTok ER (kcell (p, kr)) 0 0)
      ⊢ iprop(((cred (tallyAt (kcell (c, ks)) () (tot ks.val)) ∗ owesE c j) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst sS hsc) sem hsrc hdst hsem) k) Q) := by
  subst hn hS hR
  unfold owesE
  iintro ⟨#HK, Hs, Hd, ⟨%W, HO⟩, Hts, Htr⟩ Hk
  iapply (Rounds.wp_send_landing_pointsTo 𝒱₀ ER (sched m) (c : Thread nD τ) none (κ₁ := K (c, ks)) (κ₂ := K (n, kr)) (r₁ := 0) (r₂ := 0)
      (d₁ := 0) (d₂ := 0) (fd := fd) (duty_mem m c ks hks) (duty_mem m n kr hkr) () () (amt kr.val) hN
      ((amount_eq m c ks 0).trans hNs) (amount_eq m n kr 0) (O₀ := owing c (j + 1)) (owing c j) (by rw [owing_succ, hd]) (W := W)
      (hp₁.trans (Entails.of_eq (payload_eq m c ks 0).symm)) (hp₂.trans (Entails.of_eq (payload_eq m n kr 0).symm))) $$ [Hs Hd HO Hts Htr]
  · isplitr; · iapply (know_inv m K (c, ks)); iexact HK
    isplitr; · iapply (know_inv m K (n, kr)); iexact HK
    isplitl [Hs]; · iexact Hs
    isplitl [Hd]; · iexact Hd
    isplitl [HO]; · iexact HO
    isplitl [Hts]; · iexact Hts
    isplitr; · iapply (know_reached m K (c, ks)); iexact HK
    isplitl [Htr]; · iexact Htr
    iapply (know_reached m K (n, kr)); iexact HK
  iintro ⟨Hc, HO⟩
  iapply Hk
  isplitl [Hc]; · rw [tot_eq ks hks, hNs]; iexact Hc
  iexists W; iexact HO

/-- A transfer of a doubling round: the source comes back with the wait on the send cell. -/
theorem send_step {α : Type} {Q : α → sProp 𝕄} {k : PUnit → Prog (TpuEff nD τ sig (Elt F) Λ₀ .tc) α}
    (c n p : Dev nD) (ks kr : Fin 13) (j : ℕ) (hn : n = p) (hd : dcell c j = (p, kr)) {S : Shape} {sS sem : SemLoc sig}
    {src : Memref sig .tc .vmem S .bf16} {dst : Memref sig .tc .vmem S .bf16} (hS : sS = csem ks) (hR : sem = csem kr)
    {hsc : (dst : Memref sig (Dev.tc n : Thread nD τ).2.kind .vmem S .bf16).view.ref.isScScratch = false}
    {hsrc : src.view.WordExact} {hdst : dst.view.WordExact}
    {hsem : DmaTarget.Typed .vmem sem (.remote (Dev.tc n : Thread nD τ) dst sS hsc)}
    (hks : ks ≠ 0) (hkr : kr ≠ 0) (hN : dst.view.amount sem = amt kr.val) (hNs : amt ks.val = amt kr.val)
    {fs : Buf (Elt F) (src.view.loc (c : Thread nD τ))} {fd : Buf (Elt F) (dst.view.loc (p : Thread nD τ))}
    (hp₁ : (src.view.loc (c : Thread nD τ) ↦[src.view.set]{fullShare} fs) ⊢ pay m ks.val c 0)
    (hp₂ : (dst.view.loc (p : Thread nD τ) ↦[dst.view.set]{fullShare} (dst.view.write (Elt F) fd (src.view.read (Elt F) fs) Finset.univ)) ⊢ pay m kr.val p 0) :
    iprop(know m K ∗ (src.view.loc (c : Thread nD τ) ↦[src.view.set]{fullShare} fs) ∗ (dst.view.loc (p : Thread nD τ) ↦[dst.view.set]{fullShare} fd)
        ∗ owesE c (j + 1) ∗ dutyTok ER (kcell (c, ks)) 0 0 ∗ dutyTok ER (kcell (p, kr)) 0 0)
      ⊢ iprop(((cred (tallyAt (kcell (c, ks)) () (tot ks.val)) ∗ owesE c j) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst sS hsc) sem hsrc hdst hsem) k) Q) := by
  subst hn hS hR
  unfold owesE
  iintro ⟨#HK, Hs, Hd, ⟨%W, HO⟩, Hts, Htr⟩ Hk
  iapply (Rounds.wp_send_pointsTo 𝒱₀ ER (sched m) (c : Thread nD τ) none (κ₁ := K (c, ks)) (κ₂ := K (n, kr)) (r₁ := 0) (r₂ := 0)
      (d₁ := 0) (d₂ := 0) (fd := fd) (duty_mem m c ks hks) (duty_mem m n kr hkr) () () (amt kr.val) hN
      ((amount_eq m c ks 0).trans hNs) (amount_eq m n kr 0) (O₀ := owing c (j + 1)) (owing c j) (by rw [owing_succ, hd]) (W := W)
      (hp₁.trans (Entails.of_eq (payload_eq m c ks 0).symm)) (hp₂.trans (Entails.of_eq (payload_eq m n kr 0).symm))) $$ [Hs Hd HO Hts Htr]
  · isplitr; · iapply (know_inv m K (c, ks)); iexact HK
    isplitr; · iapply (know_inv m K (n, kr)); iexact HK
    isplitl [Hs]; · iexact Hs
    isplitl [Hd]; · iexact Hd
    isplitl [HO]; · iexact HO
    isplitl [Hts]; · iexact Hts
    isplitr; · iapply (know_reached m K (c, ks)); iexact HK
    isplitl [Htr]; · iexact Htr
    iapply (know_reached m K (n, kr)); iexact HK
  iintro ⟨Hc, HO⟩
  iapply Hk
  isplitl [Hc]; · rw [tot_eq ks hks, hNs]; iexact Hc
  iexists W; iexact HO

end Rules

end Cert.Cube

end
-- ==== Proof.Transfers.lean ====
/-
A transfer of a halving round, one of a doubling round, and the addition between two transfers, each at the head of
a program, with the parts of the buffers they change hands on.
-/
module

public import proofs.«01_k».proof.Proof.Steps

@[expose] public section

set_option maxRecDepth 16384

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The parts a transfer names -/

/-- Two row ranges of the accumulator at the same offset are one part. -/
theorem slice_eq {o o' sz : Fin 2 → ℕ} (h : o = o') (hi : ∀ a, o a + sz a ≤ S512x512.size a) (hi' : ∀ a, o' a + sz a ≤ S512x512.size a) :
    (accM.slice (Rect.unit (s := S512x512) o sz hi) (fun _ => rfl) : Memref sig .tc .vmem _ .bf16)
      = accM.slice (Rect.unit (s := S512x512) o' sz hi') (fun _ => rfl) := by
  subst h; rfl

/-- What a part holds once it is written what was read of it elsewhere. -/
theorem write_read_mem {S : Shape} (v : Memref sig .tc .vmem S .bf16) (f g : v.view.ty.Contents (Elt F)) :
    ∀ i ∈ v.view.set, v.view.write (Elt F) f (v.view.read (Elt F) g) Finset.univ i = g i := by
  intro i hi
  obtain ⟨j, -, rfl⟩ := Finset.mem_map.mp hi
  rw [View.write_emb_of_mem _ _ (Finset.mem_univ j), View.read_apply, cast_cast, cast_eq]

section Transfers
variable (K : Dev nD × Fin 13 → ℕ)

/-- A transfer of a halving round, with what landed read off. -/
theorem land {α : Type} {Q : α → sProp 𝕄} {k : PUnit → Prog (TpuEff nD τ sig (Elt F) Λ₀ .tc) α}
    (c n p : Dev nD) (ks kr : Fin 13) (j : ℕ) (hn : n = p) (hd : dcell c j = (p, kr)) {S : Shape} {sS sem : SemLoc sig}
    {src dst : Memref sig .tc .vmem S .bf16} (src' : Memref sig .tc .vmem S .bf16) (es : src = src') (hS : sS = csem ks) (hR : sem = csem kr)
    {hsc : (dst : Memref sig (Dev.tc n : Thread nD τ).2.kind .vmem S .bf16).view.ref.isScScratch = false}
    {hsrc : src.view.WordExact} {hdst : dst.view.WordExact}
    {hsem : DmaTarget.Typed .vmem sem (.remote (Dev.tc n : Thread nD τ) dst sS hsc)}
    (hks : ks ≠ 0) (hkr : kr ≠ 0) (hN : dst.view.amount sem = amt kr.val) (hNs : amt ks.val = amt kr.val)
    (fs : Buf (Elt F) (src'.view.loc (c : Thread nD τ)))
    (hp₁ : (emp : sProp 𝕄) ⊢ pay m ks.val c 0)
    (hp₂ : iprop((∃ f : Buf (Elt F) (dst.view.loc (p : Thread nD τ)), ⌜dst.view.read (Elt F) f = src'.view.read (Elt F) fs⌝ ∗ (dst.view.loc (p : Thread nD τ) ↦[dst.view.set]{fullShare} f))
        ∗ (src'.view.loc (c : Thread nD τ) ↦[src'.view.set]{fullShare} fs)) ⊢ pay m kr.val p 0) :
    iprop(know m K ∗ (src'.view.loc (c : Thread nD τ) ↦[src'.view.set]{fullShare} fs)
        ∗ (∃ fd : Buf (Elt F) (dst.view.loc (p : Thread nD τ)), (dst.view.loc (p : Thread nD τ) ↦[dst.view.set]{fullShare} fd))
        ∗ owesE c (j + 1) ∗ dutyTok ER (kcell (c, ks)) 0 0 ∗ dutyTok ER (kcell (p, kr)) 0 0)
      ⊢ iprop(((cred (tallyAt (kcell (c, ks)) () (tot ks.val)) ∗ owesE c j) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst sS hsc) sem hsrc hdst hsem) k) Q) := by
  subst es
  iintro ⟨#HK, Hs, ⟨%fd, Hd⟩, HO, Hts, Htr⟩ Hk
  iapply (land_step m K c n p ks kr j hn hd hS hR hks hkr hN hNs (fs := fs) (fd := fd) hp₁ (by
      refine BIBase.Entails.trans ?_ hp₂
      iintro ⟨Hd, Hs⟩
      isplitl [Hd]
      · iexists (dst.view.write (Elt F) fd (src.view.read (Elt F) fs) Finset.univ)
        isplitr
        · ipureintro; exact View.read_write_univ _ _
        iexact Hd
      iexact Hs)) $$ [Hs Hd HO Hts Htr]
  · isplitr; · iexact HK
    isplitl [Hs]; · iexact Hs
    isplitl [Hd]; · iexact Hd
    isplitl [HO]; · iexact HO
    isplitl [Hts] <;> iassumption
  iexact Hk

/-- A transfer of a doubling round: the sender's rows go to the same rows of the partner's accumulator. -/
theorem spread {α : Type} {Q : α → sProp 𝕄} {k : PUnit → Prog (TpuEff nD τ sig (Elt F) Λ₀ .tc) α}
    (c n p : Dev nD) (ks kr : Fin 13) (j : ℕ) (hn : n = p) (hd : dcell c j = (p, kr)) {S : Shape} {sS sem : SemLoc sig}
    {src dst : Memref sig .tc .vmem S .bf16} (v : Memref sig .tc .vmem S .bf16) (es : src = v) (ed : dst = v)
    (hS : sS = csem ks) (hR : sem = csem kr)
    {hsc : (dst : Memref sig (Dev.tc n : Thread nD τ).2.kind .vmem S .bf16).view.ref.isScScratch = false}
    {hsrc : src.view.WordExact} {hdst : dst.view.WordExact}
    {hsem : DmaTarget.Typed .vmem sem (.remote (Dev.tc n : Thread nD τ) dst sS hsc)}
    (hks : ks ≠ 0) (hkr : kr ≠ 0) (hN : v.view.amount sem = amt kr.val) (hNs : amt ks.val = amt kr.val)
    (g : v.view.ty.Contents (Elt F))
    (hp₁ : (v.view.loc (c : Thread nD τ) ↦[v.view.set]{fullShare} g) ⊢ pay m ks.val c 0)
    (hp₂ : (v.view.loc (p : Thread nD τ) ↦[v.view.set]{fullShare} g) ⊢ pay m kr.val p 0) :
    iprop(know m K ∗ (v.view.loc (c : Thread nD τ) ↦[v.view.set]{fullShare} g)
        ∗ (∃ fd : Buf (Elt F) (v.view.loc (p : Thread nD τ)), (v.view.loc (p : Thread nD τ) ↦[v.view.set]{fullShare} fd))
        ∗ owesE c (j + 1) ∗ dutyTok ER (kcell (c, ks)) 0 0 ∗ dutyTok ER (kcell (p, kr)) 0 0)
      ⊢ iprop(((cred (tallyAt (kcell (c, ks)) () (tot ks.val)) ∗ owesE c j) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst sS hsc) sem hsrc hdst hsem) k) Q) := by
  subst ed es
  iintro ⟨#HK, Hs, ⟨%fd, Hd⟩, HO, Hts, Htr⟩ Hk
  iapply (send_step m K c n p ks kr j hn hd hS hR hks hkr hN hNs (fs := g) (fd := fd) hp₁
      ((Entails.of_eq (pointsTo_congr (write_read_mem _ fd g))).trans hp₂)) $$ [Hs Hd HO Hts Htr]
  · isplitr; · iexact HK
    isplitl [Hs]; · iexact Hs
    isplitl [Hd]; · iexact Hd
    isplitl [HO]; · iexact HO
    isplitl [Hts] <;> iassumption
  iexact Hk

/-- The addition of a halving round: the rows kept and what landed are loaded, their sum is stored over the rows kept. -/
theorem add_step {α : Type} {Q : α → sProp 𝕄} {k : PUnit → Prog (TpuEff nD τ sig (Elt F) Λ₀ .tc) α} (c : Dev nD)
    (rA : Rect S512x512) (rB : Rect S3x256x512) (I : Finset S512x512.Idx) (J : Finset S3x256x512.Idx)
    (hI : (accM.access rA).set = I) (hJ : (rcvM.access rB).set = J)
    {pl : (rA.shape.Idx → Elt F .bf16) → (rB.shape.Idx → Elt F .bf16) → (rA.shape.Idx → Elt F .bf16)}
    {h₁ h₃ : accM.view.LoadsAt rA.toLoadRect} {h₂ : rcvM.view.LoadsAt rB.toLoadRect}
    {hx : (accM.access rA).Stores Finset.univ} {hm : (Finset.univ : Finset rA.shape.Idx) = Finset.univ ∨ ∀ a, rA.stride a = 1}
    (P : Vec F S3x256x512 .bf16 → Prop) (g g' : Vec F S512x512 .bf16)
    (hg : ∀ f, P f → ∀ i ∈ I, (accM.access rA : View sig .tc _ _ _).write (Elt F) g
        (pl (accM.view.readAt (Elt F) rA.toLoadRect g) (rcvM.view.readAt (Elt F) rB.toLoadRect f)) Finset.univ i = g' i) :
    iprop(accPts c I g ∗ (∃ f, ⌜P f⌝ ∗ rcvPts c J f))
      ⊢ iprop(((accPts c I g' ∗ ∃ f, rcvPts c J f) -∗ wp frame (wpE (defs₀ (F := F)) 𝒱₀ (c : Thread nD τ) none) Set.univ (k ⟨⟩) Q)
        -∗ wp frame (wpE (defs₀ (F := F)) 𝒱₀ (c : Thread nD τ) none) Set.univ
            (.op (.load accM rA.toLoadRect h₁) fun a => .op (.load rcvM rB.toLoadRect h₂) fun b => .op (.load accM rA.toLoadRect h₃) fun _ =>
              .op (.store accM rA (pl a b) Finset.univ hx hm) k) Q) := by
  iintro ⟨Ha, ⟨%f, %hf, Hr⟩⟩ Hk
  have hI' : accM.view.setOn rA.toLoadRect.set ⊆ I := by rw [← hI, View.set_slice]; exact Finset.Subset.refl _
  have hJ' : rcvM.view.setOn rB.toLoadRect.set ⊆ J := by rw [← hJ, View.set_slice]; exact Finset.Subset.refl _
  iapply (wp_load 𝒱₀ (c : Thread nD τ) none Set.univ (m := accM) hI') $$ Ha; iintro Ha
  iapply (wp_load 𝒱₀ (c : Thread nD τ) none Set.univ (m := rcvM) hJ') $$ Hr; iintro Hr
  iapply (wp_load 𝒱₀ (c : Thread nD τ) none Set.univ (m := accM) hI') $$ Ha; iintro Ha
  iapply (wp_store 𝒱₀ (c : Thread nD τ) none Set.univ (m := accM) (r := rA) (Mk := Finset.univ) (by rw [View.setOn_univ, hI])) $$ Ha; iintro Ha
  iapply Hk
  isplitl [Ha]
  · iapply (Entails.of_eq (pointsTo_congr (hg f hf))); iexact Ha
  iexists f; iexact Hr

end Transfers

end Cert.Cube

end
-- ==== Proof.Parts.lean ====
/-
The kernel's body part by part: each part run from what it needs to what it leaves.
-/
module

public import proofs.«01_k».proof.Proof.Transfers

@[expose] public section

set_option maxRecDepth 16384

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a part holds -/

/-- The credit of device `c`'s own cell `k`, its place there before and after the round, and the right to pay a duty. -/
abbrev due (c : Dev nD) (k : Fin 13) : sProp 𝕄 := cred (tallyAt (kcell (c, k)) () (tot k.val))
abbrev at0 (c : Dev nD) (k : Fin 13) : sProp 𝕄 := atPos ER (kcell (c, k)) 0 ∅ 0
abbrev at1 (c : Dev nD) (k : Fin 13) : sProp 𝕄 := atPos ER (kcell (c, k)) 1 ∅ 0
abbrev tok (c : Dev nD) (k : Fin 13) (d : Fin 3) : sProp 𝕄 := dutyTok ER (kcell (c, k)) 0 d
/-- Some contents of part `I` of a device's landing buffer, of its accumulator. -/
abbrev anyRcv (c : Dev nD) (I : Finset S3x256x512.Idx) : sProp 𝕄 := iprop(∃ f, rcvPts (F := F) c I f)
abbrev anyAcc (c : Dev nD) (I : Finset S512x512.Idx) : sProp 𝕄 := iprop(∃ f, accPts (F := F) c I f)
/-- A staging buffer at contents `X`. -/
abbrev stgAt (c : Dev nD) (b : Ref sig .tc) (X : b.ty.Contents (Elt F)) : sProp 𝕄 := ((c : Thread nD τ).loc b) ↦{fullShare} X

/-- What the wait on the barrier hands over: the partners' parts this device writes to. -/
theorem pay_bar (c : Dev nD) : bigSep (dutiesOf (0 : Fin 13).val) (fun d => pay m (0 : Fin 13).val c d)
    = iprop(anyRcv (F := F) (peer 0 c) (slot 0) ∗ anyRcv (F := F) (peer 1 c) (slot 1) ∗ anyRcv (F := F) (peer 2 c) (slot 2)) :=
  bigSep_univ_eq_bigSepL [(0 : Fin 3), 1, 2] (by decide) (by decide) (fun d => pay m 0 c d)
/-- Any other wait hands over one thing. -/
theorem pay_one (k : Fin 13) (hk : k ≠ 0) (c : Dev nD) : bigSep (dutiesOf k.val) (fun d => pay m k.val c d) = pay m k.val c 0 := by
  rw [show dutiesOf k.val = {0} by revert hk; revert k; decide, bigSep_singleton]

/-- The accumulator, and the rows kept after rounds 0 and 1, in two: the rows kept next and the partner's. -/
theorem split0 (c : Dev nD) (g : Vec F S512x512 .bf16) :
    accPts c Finset.univ g = iprop(accPts c (aw0 c).view.set g ∗ accPts c (aw0 (peer 0 c)).view.set g) := by
  rw [← aw0_union c]; exact (pointsTo_union (aw0_disj c)).1.antisymm (pointsTo_union (aw0_disj c)).2
theorem split1 (c : Dev nD) (g : Vec F S512x512 .bf16) :
    accPts c (aw0 c).view.set g = iprop(accPts c (aw1 c).view.set g ∗ accPts c (aw1 (peer 1 c)).view.set g) := by
  rw [← aw1_union c]; exact (pointsTo_union (aw1_disj c)).1.antisymm (pointsTo_union (aw1_disj c)).2
theorem split2 (c : Dev nD) (g : Vec F S512x512 .bf16) :
    accPts c (aw1 c).view.set g = iprop(accPts c (aw2 c).view.set g ∗ accPts c (aw2 (peer 2 c)).view.set g) := by
  rw [← aw2_union c]; exact (pointsTo_union (aw2_disj c)).1.antisymm (pointsTo_union (aw2_disj c)).2

/-- What a landing of a halving round hands to the partner `p` of `c`. -/
theorem pay_land0 (c : Dev nD) : pay m 7 (peer 0 c) 0
    = iprop((∃ f, ⌜rs0.view.read (Elt F) f = (aw0 (peer 0 c)).view.read (Elt F) (acc0 m c)⌝ ∗ rcvPts (peer 0 c) (slot 0) f)
      ∗ accPts c (aw0 (peer 0 c)).view.set (acc0 m c)) := by unfold pay; rw [peer_peer]; rfl
theorem pay_land1 (c : Dev nD) : pay m 8 (peer 1 c) 0
    = iprop((∃ f, ⌜rs1.view.read (Elt F) f = (aw1 (peer 1 c)).view.read (Elt F) (acc1 m c)⌝ ∗ rcvPts (peer 1 c) (slot 1) f)
      ∗ accPts c (aw1 (peer 1 c)).view.set (acc1 m c)) := by unfold pay; rw [peer_peer]; rfl
theorem pay_land2 (c : Dev nD) : pay m 9 (peer 2 c) 0
    = iprop((∃ f, ⌜rs2.view.read (Elt F) f = (aw2 (peer 2 c)).view.read (Elt F) (acc2 m c)⌝ ∗ rcvPts (peer 2 c) (slot 2) f)
      ∗ accPts c (aw2 (peer 2 c)).view.set (acc2 m c)) := by unfold pay; rw [peer_peer]; rfl
/-- What a landing of a doubling round hands to the partner `p` of `c`. -/
theorem pay_spread0 (c : Dev nD) : pay m 10 (peer 0 c) 0 = accPts (peer 0 c) (aw0 c).view.set (total m) := by unfold pay; rw [peer_peer]; rfl
theorem pay_spread1 (c : Dev nD) : pay m 11 (peer 1 c) 0 = accPts (peer 1 c) (aw1 c).view.set (total m) := by unfold pay; rw [peer_peer]; rfl
theorem pay_spread2 (c : Dev nD) : pay m 12 (peer 2 c) 0 = accPts (peer 2 c) (aw2 c).view.set (total m) := by unfold pay; rw [peer_peer]; rfl

/-- What each wait on a receive cell hands over, and each wait on the send cell of a doubling round. -/
theorem got_land0 (c : Dev nD) : bigSep (dutiesOf (7 : Fin 13).val) (fun d => pay m (7 : Fin 13).val c d)
    = iprop((∃ f, ⌜rs0.view.read (Elt F) f = (aw0 c).view.read (Elt F) (acc0 m (peer 0 c))⌝ ∗ rcvPts c (slot 0) f)
      ∗ accPts (peer 0 c) (aw0 c).view.set (acc0 m (peer 0 c))) := pay_one m 7 (by decide) c
theorem got_land1 (c : Dev nD) : bigSep (dutiesOf (8 : Fin 13).val) (fun d => pay m (8 : Fin 13).val c d)
    = iprop((∃ f, ⌜rs1.view.read (Elt F) f = (aw1 c).view.read (Elt F) (acc1 m (peer 1 c))⌝ ∗ rcvPts c (slot 1) f)
      ∗ accPts (peer 1 c) (aw1 c).view.set (acc1 m (peer 1 c))) := pay_one m 8 (by decide) c
theorem got_land2 (c : Dev nD) : bigSep (dutiesOf (9 : Fin 13).val) (fun d => pay m (9 : Fin 13).val c d)
    = iprop((∃ f, ⌜rs2.view.read (Elt F) f = (aw2 c).view.read (Elt F) (acc2 m (peer 2 c))⌝ ∗ rcvPts c (slot 2) f)
      ∗ accPts (peer 2 c) (aw2 c).view.set (acc2 m (peer 2 c))) := pay_one m 9 (by decide) c
theorem got_back0 (c : Dev nD) : bigSep (dutiesOf (4 : Fin 13).val) (fun d => pay m (4 : Fin 13).val c d)
    = accPts c (aw0 c).view.set (total m) := pay_one m 4 (by decide) c
theorem got_back1 (c : Dev nD) : bigSep (dutiesOf (5 : Fin 13).val) (fun d => pay m (5 : Fin 13).val c d)
    = accPts c (aw1 c).view.set (total m) := pay_one m 5 (by decide) c
theorem got_back2 (c : Dev nD) : bigSep (dutiesOf (6 : Fin 13).val) (fun d => pay m (6 : Fin 13).val c d)
    = accPts c (aw2 c).view.set (total m) := pay_one m 6 (by decide) c
theorem got_spread0 (c : Dev nD) : bigSep (dutiesOf (10 : Fin 13).val) (fun d => pay m (10 : Fin 13).val c d)
    = accPts c (aw0 (peer 0 c)).view.set (total m) := pay_one m 10 (by decide) c
theorem got_spread1 (c : Dev nD) : bigSep (dutiesOf (11 : Fin 13).val) (fun d => pay m (11 : Fin 13).val c d)
    = accPts c (aw1 (peer 1 c)).view.set (total m) := pay_one m 11 (by decide) c
theorem got_spread2 (c : Dev nD) : bigSep (dutiesOf (12 : Fin 13).val) (fun d => pay m (12 : Fin 13).val c d)
    = accPts c (aw2 (peer 2 c)).view.set (total m) := pay_one m 12 (by decide) c

theorem zero2 : (![0, 0] : Fin 2 → ℕ) = fun _ => 0 := by decide

/-- A store over the whole accumulator, a load of it, and a store over the whole result. -/
theorem acc_write (f w : Vec F S512x512 .bf16) :
    (accM.access (Rect.unit (s := S512x512) ![0, 0] S512x512.size inb_S512x512_S512x512_0_0) : View sig .tc _ _ _).write (Elt F) f w Finset.univ = w :=
  Memref.write_access_unit_zero_univ (Elt F) cc0_scratch0 zero2 _ f w
theorem acc_read (f : Vec F S512x512 .bf16) :
    accM.view.readAt (Elt F) (Rect.unit (s := S512x512) ![0, 0] S512x512.size inb_S512x512_S512x512_0_0).toLoadRect f = f :=
  Memref.readAt_unit_zero (Elt F) cc0_scratch0 zero2 _ f
theorem out_write (f w : Vec F S512x512 .f32) :
    ((Memref.whole cc0_stg5_0 : Memref sig .tc .vmem S512x512 .f32).access (Rect.unit (s := S512x512) ![0, 0] S512x512.size inb_S512x512_S512x512_0_0) : View sig .tc _ _ _).write (Elt F) f w Finset.univ = w :=
  Memref.write_access_unit_zero_univ (Elt F) cc0_stg5_0 zero2 _ f w
/-- The loads of whole staging buffers. -/
theorem xs_read (f : Vec F S512x256 .bf16) :
    (Memref.whole cc0_stg0_0 : Memref sig .tc .vmem S512x256 .bf16).view.readAt (Elt F) (Rect.unit (s := S512x256) ![0, 0] S512x256.size inb_S512x256_S512x256_0_0).toLoadRect f = f :=
  Memref.readAt_unit_zero (Elt F) cc0_stg0_0 zero2 _ f
theorem rws_read (f : Vec F S256x16 .bf16) :
    (Memref.whole cc0_stg1_0 : Memref sig .tc .vmem S256x16 .bf16).view.readAt (Elt F) (Rect.unit (s := S256x16) ![0, 0] S256x16.size inb_S256x16_S256x16_0_0).toLoadRect f = f :=
  Memref.readAt_unit_zero (Elt F) cc0_stg1_0 zero2 _ f
theorem ids_read (f : Vec F S512x1 .i32) :
    (Memref.whole cc0_stg2_0 : Memref sig .tc .vmem S512x1 .i32).view.readAt (Elt F) (Rect.unit (s := S512x1) ![0, 0] S512x1.size inb_S512x1_S512x1_0_0).toLoadRect f = f :=
  Memref.readAt_unit_zero (Elt F) cc0_stg2_0 zero2 _ f
theorem sws_read (f : Vec F S256x512 .bf16) :
    (Memref.whole cc0_stg4_0 : Memref sig .tc .vmem S256x512 .bf16).view.readAt (Elt F) (Rect.unit (s := S256x512) ![0, 0] S256x512.size inb_S256x512_S256x512_0_0).toLoadRect f = f :=
  Memref.readAt_unit_zero (Elt F) cc0_stg4_0 zero2 _ f

/-- The accumulator after its first store, in halves. -/
theorem acc_first (c : Dev nD) :
    ((accM.access (Rect.unit (s := S512x512) ![0, 0] S512x512.size inb_S512x512_S512x512_0_0) : View sig .tc _ _ _).loc (c : Thread nD τ)
        ↦[Finset.univ]{fullShare} (k0_pay6 (part m c) : Vec F S512x512 .bf16))
      ⊢ iprop(accPts c (aw0 c).view.set (acc0 m c) ∗ accPts c (aw0 (peer 0 c)).view.set (acc0 m c)) :=
  Entails.of_eq (split0 c (acc0 m c))

theorem anyAcc_intro (c : Dev nD) (I : Finset S512x512.Idx) (g : Vec F S512x512 .bf16) : accPts c I g ⊢ anyAcc (F := F) c I := by
  iintro H; iexists g; iexact H

section Parts
variable (K : Dev nD × Fin 13 → ℕ)

/-- The handshake, and the loads of the tokens, the router's weights and the routed experts. -/
theorem part1_run (c : Dev nD) (Kt : _ → sProp 𝕄) :
    iprop(know m K ∗ owesE c 9 ∗ tok (peer 0 c) 0 0 ∗ tok (peer 1 c) 0 1 ∗ tok (peer 2 c) 0 2 ∗ anyRcv c (slot 0) ∗ anyRcv c (slot 1) ∗ anyRcv c (slot 2)
        ∗ due c 0 ∗ at0 c 0 ∗ stgAt c cc0_stg0_0 (xs m c) ∗ stgAt c cc0_stg1_0 (rws m c) ∗ stgAt c cc0_stg2_0 (ids m c)
        ∗ ((owesE c 6 ∗ at1 c 0 ∗ anyRcv (peer 0 c) (slot 0) ∗ anyRcv (peer 1 c) (slot 1) ∗ anyRcv (peer 2 c) (slot 2)
        ∗ stgAt c cc0_stg0_0 (xs m c) ∗ stgAt c cc0_stg1_0 (rws m c) ∗ stgAt c cc0_stg2_0 (ids m c)) -∗ Kt ⟨c, rank c, k0_pay2 (xs m c), k0_pay3 (xs m c) (rws m c), k0_pay4 (ids m c), iota .tc S512x16 32 [1] iota_S512x16_d1_w32⟩))
      ⊢ wp frame (wpE (defs₀ (F := F)) 𝒱₀ (c : Thread nD τ) none) Set.univ
          (k0_part1 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [k0_part1_eq_skeleton]; unfold k0_part1_skel
  simp only [semSignalWord, semWaitWord, Prog.lift, Prog.bind_op, Prog.bind_ret, Prog.pure_eq_ret, wp_deviceId]
  iintro ⟨#HK, HO, Ht0, Ht1, Ht2, Hs0, Hs1, Hs2, Hc, Ha, Hx, Hr, Hi, Hk⟩
  iapply (signal_step m K c _ 0 8 (dev1_eq c) rfl (by decide)) $$ [HO Ht0 Hs0]
  · isplitr; · iexact HK
    isplitl [HO]; · iexact HO
    isplitl [Ht0] <;> iassumption
  iintro HO
  iapply (signal_step m K c _ 1 7 (dev2_eq c) rfl (by decide)) $$ [HO Ht1 Hs1]
  · isplitr; · iexact HK
    isplitl [HO]; · iexact HO
    isplitl [Ht1] <;> iassumption
  iintro HO
  iapply (signal_step m K c _ 2 6 (dev3_eq c) rfl (by decide)) $$ [HO Ht2 Hs2]
  · isplitr; · iexact HK
    isplitl [HO]; · iexact HO
    isplitl [Ht2] <;> iassumption
  iintro HO
  iapply (wait_step m K c 0 (wpE_semWait_eq 𝒱₀ (c : Thread nD τ) none Set.univ) rfl (by decide) 6 (by decide)) $$ [HO Hc Ha]
  · isplitr; · iexact HK
    isplitl [Hc]; · iexact Hc
    isplitl [HO] <;> iassumption
  iintro ⟨HO, Ha, Hp⟩
  ihave Hp := (Entails.of_eq (pay_bar m c)) $$ Hp
  iapply (wp_load 𝒱₀ (c : Thread nD τ) none Set.univ (m := Memref.whole cc0_stg0_0) (Finset.subset_univ _)) $$ Hx; iintro Hx
  rw [xs_read (xs m c)]
  iapply (wp_load 𝒱₀ (c : Thread nD τ) none Set.univ (m := Memref.whole cc0_stg1_0) (Finset.subset_univ _)) $$ Hr; iintro Hr
  rw [rws_read (rws m c)]
  iapply (wp_load 𝒱₀ (c : Thread nD τ) none Set.univ (m := Memref.whole cc0_stg2_0) (Finset.subset_univ _)) $$ Hi; iintro Hi
  rw [ids_read (ids m c)]
  rw [wp_ret]; imodintro
  iapply Hk
  icases Hp with ⟨H0, H1, H2⟩
  isplitl [HO]; · iexact HO
  isplitl [Ha]; · iexact Ha
  isplitl [H0]; · iexact H0
  isplitl [H1]; · iexact H1
  isplitl [H2]; · iexact H2
  isplitl [Hx]; · iexact Hx
  isplitl [Hr] <;> iassumption

/-- The loads of the two experts' weights: the device's contribution. -/
theorem part2_run (c : Dev nD) (Kt : _ → sProp 𝕄) :
    iprop(know m K ∗ stgAt c cc0_stg3_0 (ews m c)
        ∗ ((stgAt c cc0_stg3_0 (ews m c)) -∗ Kt (part m c)))
      ⊢ wp frame (wpE (defs₀ (F := F)) 𝒱₀ (c : Thread nD τ) none) Set.univ
          (k0_part2 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 (rank c) (k0_pay2 (xs m c)) (k0_pay3 (xs m c) (rws m c)) (k0_pay4 (ids m c)) (iota .tc S512x16 32 [1] iota_S512x16_d1_w32)) Kt := by
  simp only [k0_part2_eq_skeleton]; unfold k0_part2_skel
  simp only [semSignalWord, semWaitWord, Prog.lift, Prog.bind_op, Prog.bind_ret, Prog.pure_eq_ret, wp_deviceId]
  unfold part ew0 ew1
  iintro ⟨-, He, Hk⟩
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  rw [wp_ret]; imodintro
  iapply Hk
  iexact He

/-- The contribution goes into the accumulator, the half the partner keeps is sent to it, and the shared expert's part is computed. -/
theorem part3_run (c : Dev nD) (v₂ : BitVec 32) (Kt : _ → sProp 𝕄) :
    iprop(know m K ∗ owesE c 6 ∗ anyAcc c Finset.univ ∗ anyRcv (peer 0 c) (slot 0) ∗ tok c 1 0 ∗ tok (peer 0 c) 7 0 ∗ at0 c 1 ∗ stgAt c cc0_stg4_0 (sws m c)
        ∗ (∀ v w, (owesE c 5 ∗ accPts c (aw0 c).view.set (acc0 m c) ∗ at1 c 1 ∗ stgAt c cc0_stg4_0 (sws m c)) -∗ Kt ⟨v, w, shared m c⟩))
      ⊢ wp frame (wpE (defs₀ (F := F)) 𝒱₀ (c : Thread nD τ) none) Set.univ
          (k0_part3 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v₂ (k0_pay2 (xs m c)) (part m c)) Kt := by
  simp only [k0_part3_eq_skeleton]; unfold k0_part3_skel
  simp only [semSignalWord, semWaitWord, Prog.lift, Prog.bind_op, Prog.bind_ret, Prog.pure_eq_ret, wp_deviceId]
  unfold shared
  iintro ⟨#HK, HO, ⟨%f, Hacc⟩, Hd, Hts, Htr, Ha1, Hw, Hk⟩
  iapply (wp_load 𝒱₀ (c : Thread nD τ) none Set.univ (m := accM) (Finset.subset_univ _)) $$ Hacc; iintro Hacc
  iapply (wp_store 𝒱₀ (c : Thread nD τ) none Set.univ (m := accM) (r := Rect.unit (s := S512x512) ![0, 0] S512x512.size inb_S512x512_S512x512_0_0) (Mk := Finset.univ) (Finset.subset_univ _)) $$ Hacc; iintro Hacc
  rw [acc_write f (k0_pay6 (part m c))]
  ihave Hacc := (acc_first m c) $$ Hacc
  icases Hacc with ⟨Hkeep, Hsend⟩
  iapply (land m K c _ (peer 0 c) 1 7 5 (dev4_eq c) rfl (aw0 (peer 0 c)) (slice_eq (off1_eq c) _ _) rfl rfl (by decide) (by decide) rfl rfl
    (acc0 m c) (Entails.of_eq rfl) (Entails.of_eq (pay_land0 m c).symm)) $$ [Hsend Hd HO Hts Htr]
  · isplitr; · iexact HK
    isplitl [Hsend]; · iexact Hsend
    isplitl [Hd]; · iexact Hd
    isplitl [HO]; · iexact HO
    isplitl [Hts] <;> iassumption
  iintro ⟨Hc1, HO⟩
  iapply (wp_load 𝒱₀ (c : Thread nD τ) none Set.univ (m := Memref.whole cc0_stg4_0) (Finset.subset_univ _)) $$ Hw; iintro Hw
  rw [sws_read (sws m c)]
  iapply (wait_step m K c 1 (wpE_waitDma2_eq 𝒱₀ (c : Thread nD τ) none Set.univ) rfl ((tot_eq 1 (by decide)).symm ▸ rfl) 5 (by decide)) $$ [HO Hc1 Ha1]
  · isplitr; · iexact HK
    isplitl [Hc1]; · iexact Hc1
    isplitl [HO] <;> iassumption
  iintro ⟨HO, Ha1, Hp⟩
  rw [wp_ret]; imodintro
  iapply Hk
  isplitl [HO]; · iexact HO
  isplitl [Hkeep]; · iexact Hkeep
  isplitl [Ha1] <;> iassumption

/-- Round 0's half is added, and of the sum the quarter the next partner keeps is sent to it. -/
theorem part4_run (c : Dev nD) (v₂ v₃ v₄ : BitVec 32) (Kt : _ → sProp 𝕄) :
    iprop(know m K ∗ owesE c 5 ∗ accPts c (aw0 c).view.set (acc0 m c) ∗ due c 7 ∗ at0 c 7 ∗ anyRcv (peer 1 c) (slot 1) ∗ tok c 2 0 ∗ tok (peer 1 c) 8 0
        ∗ (∀ v w, (owesE c 4 ∗ accPts c (aw1 c).view.set (acc1 m c) ∗ anyAcc (peer 0 c) (aw0 c).view.set ∗ anyRcv c (slot 0) ∗ at1 c 7 ∗ due c 2) -∗ Kt ⟨v, w⟩))
      ⊢ wp frame (wpE (defs₀ (F := F)) 𝒱₀ (c : Thread nD τ) none) Set.univ
          (k0_part4 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v₂ v₃ v₄) Kt := by
  simp only [k0_part4_eq_skeleton]; unfold k0_part4_skel
  simp only [semSignalWord, semWaitWord, Prog.lift, Prog.bind_op, Prog.bind_ret, Prog.pure_eq_ret, wp_deviceId]
  iintro ⟨#HK, HO, Hacc, Hc7, Ha7, Hd, Hts, Htr, Hk⟩
  iapply (wait_step m K c 7 (wpE_waitDma2_eq 𝒱₀ (c : Thread nD τ) none Set.univ) rfl ((tot_eq 7 (by decide)).symm ▸ rfl) 5 (by decide)) $$ [HO Hc7 Ha7]
  · isplitr; · iexact HK
    isplitl [Hc7]; · iexact Hc7
    isplitl [HO] <;> iassumption
  iintro ⟨HO, Ha7, Hp⟩
  ihave Hp := (Entails.of_eq (got_land0 m c)) $$ Hp
  icases Hp with ⟨Hl, Hpeer⟩
  iapply (add_step c _ _ (aw0 c).view.set (slot 0) rfl (View.set_reshape _ _).symm
    (fun f => rs0.view.read (Elt F) f = (aw0 c).view.read (Elt F) (acc0 m (peer 0 c))) (acc0 m c) (acc1 m c) (stored0 m c)) $$ [Hacc Hl]
  · isplitl [Hacc]; · iexact Hacc
    iexact Hl
  iintro ⟨Hacc, Hr⟩
  ihave Hpeer := (anyAcc_intro _ _ _) $$ Hpeer
  ihave Hacc := (Entails.of_eq (split1 c (acc1 m c))) $$ Hacc
  icases Hacc with ⟨Hkeep, Hsend⟩
  iapply (land m K c _ (peer 1 c) 2 8 4 (dev5_eq c) rfl (aw1 (peer 1 c)) (slice_eq (off3_eq c) _ _) rfl rfl (by decide) (by decide) rfl rfl
    (acc1 m c) (Entails.of_eq rfl) (Entails.of_eq (pay_land1 m c).symm)) $$ [Hsend Hd HO Hts Htr]
  · isplitr; · iexact HK
    isplitl [Hsend]; · iexact Hsend
    isplitl [Hd]; · iexact Hd
    isplitl [HO]; · iexact HO
    isplitl [Hts] <;> iassumption
  iintro ⟨Hc2, HO⟩
  rw [wp_ret]; imodintro
  iapply Hk
  isplitl [HO]; · iexact HO
  isplitl [Hkeep]; · iexact Hkeep
  isplitl [Hpeer]; · iexact Hpeer
  isplitl [Hr]; · iexact Hr
  isplitl [Ha7] <;> iassumption

/-- Round 1's quarter is added. -/
theorem part5_run (c : Dev nD) (v₂ v₃ v₄ : BitVec 32) (Kt : _ → sProp 𝕄) :
    iprop(know m K ∗ owesE c 4 ∗ accPts c (aw1 c).view.set (acc1 m c) ∗ due c 2 ∗ at0 c 2 ∗ due c 8 ∗ at0 c 8
        ∗ (∀ v w, (owesE c 4 ∗ accPts c (aw1 c).view.set (acc2 m c) ∗ anyAcc (peer 1 c) (aw1 c).view.set ∗ anyRcv c (slot 1) ∗ at1 c 2 ∗ at1 c 8) -∗ Kt ⟨v, w⟩))
      ⊢ wp frame (wpE (defs₀ (F := F)) 𝒱₀ (c : Thread nD τ) none) Set.univ
          (k0_part5 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v₂ v₃ v₄) Kt := by
  simp only [k0_part5_eq_skeleton]; unfold k0_part5_skel
  simp only [semSignalWord, semWaitWord, Prog.lift, Prog.bind_op, Prog.bind_ret, Prog.pure_eq_ret, wp_deviceId]
  iintro ⟨#HK, HO, Hacc, Hc2, Ha2, Hc8, Ha8, Hk⟩
  iapply (wait_step m K c 2 (wpE_waitDma2_eq 𝒱₀ (c : Thread nD τ) none Set.univ) rfl ((tot_eq 2 (by decide)).symm ▸ rfl) 4 (by decide)) $$ [HO Hc2 Ha2]
  · isplitr; · iexact HK
    isplitl [Hc2]; · iexact Hc2
    isplitl [HO] <;> iassumption
  iintro ⟨HO, Ha2, Hp⟩
  iapply (wait_step m K c 8 (wpE_waitDma2_eq 𝒱₀ (c : Thread nD τ) none Set.univ) rfl ((tot_eq 8 (by decide)).symm ▸ rfl) 4 (by decide)) $$ [HO Hc8 Ha8]
  · isplitr; · iexact HK
    isplitl [Hc8]; · iexact Hc8
    isplitl [HO] <;> iassumption
  iintro ⟨HO, Ha8, Hp⟩
  ihave Hp := (Entails.of_eq (got_land1 m c)) $$ Hp
  icases Hp with ⟨Hl, Hpeer⟩
  iapply (add_step c _ _ (aw1 c).view.set (slot 1) rfl (View.set_reshape _ _).symm
    (fun f => rs1.view.read (Elt F) f = (aw1 c).view.read (Elt F) (acc1 m (peer 1 c))) (acc1 m c) (acc2 m c) (stored1 m c)) $$ [Hacc Hl]
  · isplitl [Hacc]; · iexact Hacc
    iexact Hl
  iintro ⟨Hacc, Hr⟩
  ihave Hpeer := (anyAcc_intro _ _ _) $$ Hpeer
  rw [wp_ret]; imodintro
  iapply Hk
  isplitl [HO]; · iexact HO
  isplitl [Hacc]; · iexact Hacc
  isplitl [Hpeer]; · iexact Hpeer
  isplitl [Hr]; · iexact Hr
  isplitl [Ha2] <;> iassumption

/-- Round 2: an eighth is sent, the partner's is added; the rows kept are now reduced. -/
theorem part6_run (c : Dev nD) (v₂ v₃ : BitVec 32) (Kt : _ → sProp 𝕄) :
    iprop(know m K ∗ owesE c 4 ∗ accPts c (aw1 c).view.set (acc2 m c) ∗ anyRcv (peer 2 c) (slot 2) ∗ tok c 3 0 ∗ tok (peer 2 c) 9 0 ∗ at0 c 3 ∗ due c 9 ∗ at0 c 9
        ∗ ((owesE c 3 ∗ accPts c (aw2 c).view.set (total m) ∗ anyAcc (peer 2 c) (aw2 c).view.set ∗ anyRcv c (slot 2) ∗ at1 c 3 ∗ at1 c 9) -∗ Kt ⟨⟩))
      ⊢ wp frame (wpE (defs₀ (F := F)) 𝒱₀ (c : Thread nD τ) none) Set.univ
          (k0_part6 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v₂ v₃) Kt := by
  simp only [k0_part6_eq_skeleton]; unfold k0_part6_skel
  simp only [semSignalWord, semWaitWord, Prog.lift, Prog.bind_op, Prog.bind_ret, Prog.pure_eq_ret, wp_deviceId]
  iintro ⟨#HK, HO, Hacc, Hd, Hts, Htr, Ha3, Hc9, Ha9, Hk⟩
  ihave Hacc := (Entails.of_eq (split2 c (acc2 m c))) $$ Hacc
  icases Hacc with ⟨Hacc, Hsend⟩
  iapply (land m K c _ (peer 2 c) 3 9 3 (dev6_eq c) rfl (aw2 (peer 2 c)) (slice_eq (off5_eq c) _ _) rfl rfl (by decide) (by decide) rfl rfl
    (acc2 m c) (Entails.of_eq rfl) (Entails.of_eq (pay_land2 m c).symm)) $$ [Hsend Hd HO Hts Htr]
  · isplitr; · iexact HK
    isplitl [Hsend]; · iexact Hsend
    isplitl [Hd]; · iexact Hd
    isplitl [HO]; · iexact HO
    isplitl [Hts] <;> iassumption
  iintro ⟨Hc3, HO⟩
  iapply (wait_step m K c 3 (wpE_waitDma2_eq 𝒱₀ (c : Thread nD τ) none Set.univ) rfl ((tot_eq 3 (by decide)).symm ▸ rfl) 3 (by decide)) $$ [HO Hc3 Ha3]
  · isplitr; · iexact HK
    isplitl [Hc3]; · iexact Hc3
    isplitl [HO] <;> iassumption
  iintro ⟨HO, Ha3, Hp⟩
  iapply (wait_step m K c 9 (wpE_waitDma2_eq 𝒱₀ (c : Thread nD τ) none Set.univ) rfl ((tot_eq 9 (by decide)).symm ▸ rfl) 3 (by decide)) $$ [HO Hc9 Ha9]
  · isplitr; · iexact HK
    isplitl [Hc9]; · iexact Hc9
    isplitl [HO] <;> iassumption
  iintro ⟨HO, Ha9, Hp⟩
  ihave Hp := (Entails.of_eq (got_land2 m c)) $$ Hp
  icases Hp with ⟨Hl, Hpeer⟩
  iapply (add_step c _ _ (aw2 c).view.set (slot 2) rfl (View.set_reshape _ _).symm
    (fun f => rs2.view.read (Elt F) f = (aw2 c).view.read (Elt F) (acc2 m (peer 2 c))) (acc2 m c) (acc3 m c) (stored2 m c)) $$ [Hacc Hl]
  · isplitl [Hacc]; · iexact Hacc
    iexact Hl
  iintro ⟨Hacc, Hr⟩
  ihave Hpeer := (anyAcc_intro _ _ _) $$ Hpeer
  ihave Hacc := (Entails.of_eq (pointsTo_congr (total_eq m c))) $$ Hacc
  rw [wp_ret]; imodintro
  iapply Hk
  isplitl [HO]; · iexact HO
  isplitl [Hacc]; · iexact Hacc
  isplitl [Hpeer]; · iexact Hpeer
  isplitl [Hr]; · iexact Hr
  isplitl [Ha3] <;> iassumption

/-- The reduced eighths of two partners are exchanged. -/
theorem part7_run (c : Dev nD) (v₂ v₃ : BitVec 32) (Kt : _ → sProp 𝕄) :
    iprop(know m K ∗ owesE c 3 ∗ accPts c (aw2 c).view.set (total m) ∗ anyAcc (peer 2 c) (aw2 c).view.set ∗ tok c 6 0 ∗ tok (peer 2 c) 12 0 ∗ at0 c 6 ∗ due c 12 ∗ at0 c 12
        ∗ (∀ v w, (owesE c 2 ∗ accPts c (aw1 c).view.set (total m) ∗ at1 c 6 ∗ at1 c 12) -∗ Kt ⟨v, w⟩))
      ⊢ wp frame (wpE (defs₀ (F := F)) 𝒱₀ (c : Thread nD τ) none) Set.univ
          (k0_part7 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v₂ v₃) Kt := by
  simp only [k0_part7_eq_skeleton]; unfold k0_part7_skel
  simp only [semSignalWord, semWaitWord, Prog.lift, Prog.bind_op, Prog.bind_ret, Prog.pure_eq_ret, wp_deviceId]
  iintro ⟨#HK, HO, Hacc, Hd, Hts, Htr, Ha6, Hc12, Ha12, Hk⟩
  iapply (spread m K c _ (peer 2 c) 6 12 2 (dev7_eq c) rfl (aw2 c) (slice_eq (off7_eq c) _ _) (slice_eq (off7_eq c) _ _) rfl rfl (by decide) (by decide) rfl rfl
    (total m) (Entails.of_eq rfl) (Entails.of_eq (pay_spread2 m c).symm)) $$ [Hacc Hd HO Hts Htr]
  · isplitr; · iexact HK
    isplitl [Hacc]; · iexact Hacc
    isplitl [Hd]; · iexact Hd
    isplitl [HO]; · iexact HO
    isplitl [Hts] <;> iassumption
  iintro ⟨Hc6, HO⟩
  iapply (wait_step m K c 6 (wpE_waitDma2_eq 𝒱₀ (c : Thread nD τ) none Set.univ) rfl ((tot_eq 6 (by decide)).symm ▸ rfl) 2 (by decide)) $$ [HO Hc6 Ha6]
  · isplitr; · iexact HK
    isplitl [Hc6]; · iexact Hc6
    isplitl [HO] <;> iassumption
  iintro ⟨HO, Ha6, Hp⟩
  ihave Hmine := (Entails.of_eq (got_back2 m c)) $$ Hp
  iapply (wait_step m K c 12 (wpE_waitDma2_eq 𝒱₀ (c : Thread nD τ) none Set.univ) rfl ((tot_eq 12 (by decide)).symm ▸ rfl) 2 (by decide)) $$ [HO Hc12 Ha12]
  · isplitr; · iexact HK
    isplitl [Hc12]; · iexact Hc12
    isplitl [HO] <;> iassumption
  iintro ⟨HO, Ha12, Hp⟩
  ihave Hp := (Entails.of_eq (got_spread2 m c)) $$ Hp
  ihave Hacc := (Entails.of_eq (split2 c (total m)).symm) $$ [Hmine Hp]
  · isplitl [Hmine] <;> iassumption
  rw [wp_ret]; imodintro
  iapply Hk
  isplitl [HO]; · iexact HO
  isplitl [Hacc]; · iexact Hacc
  isplitl [Ha6] <;> iassumption

/-- The reduced quarters are exchanged, and the half is sent. -/
theorem part8_run (c : Dev nD) (v₂ v₃ v₄ : BitVec 32) (Kt : _ → sProp 𝕄) :
    iprop(know m K ∗ owesE c 2 ∗ accPts c (aw1 c).view.set (total m) ∗ anyAcc (peer 1 c) (aw1 c).view.set ∗ tok c 5 0 ∗ tok (peer 1 c) 11 0 ∗ at0 c 5 ∗ due c 11 ∗ at0 c 11
        ∗ anyAcc (peer 0 c) (aw0 c).view.set ∗ tok c 4 0 ∗ tok (peer 0 c) 10 0
        ∗ (∀ v, (owesE c 0 ∗ due c 4 ∗ at1 c 5 ∗ at1 c 11) -∗ Kt v))
      ⊢ wp frame (wpE (defs₀ (F := F)) 𝒱₀ (c : Thread nD τ) none) Set.univ
          (k0_part8 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c v₂ v₃ v₄) Kt := by
  simp only [k0_part8_eq_skeleton]; unfold k0_part8_skel
  simp only [semSignalWord, semWaitWord, Prog.lift, Prog.bind_op, Prog.bind_ret, Prog.pure_eq_ret, wp_deviceId]
  iintro ⟨#HK, HO, Hacc, Hd, Hts, Htr, Ha5, Hc11, Ha11, Hd0, Hts0, Htr0, Hk⟩
  iapply (spread m K c _ (peer 1 c) 5 11 1 (dev8_eq c) rfl (aw1 c) (slice_eq (off8_eq c) _ _) (slice_eq (off8_eq c) _ _) rfl rfl (by decide) (by decide) rfl rfl
    (total m) (Entails.of_eq rfl) (Entails.of_eq (pay_spread1 m c).symm)) $$ [Hacc Hd HO Hts Htr]
  · isplitr; · iexact HK
    isplitl [Hacc]; · iexact Hacc
    isplitl [Hd]; · iexact Hd
    isplitl [HO]; · iexact HO
    isplitl [Hts] <;> iassumption
  iintro ⟨Hc5, HO⟩
  iapply (wait_step m K c 5 (wpE_waitDma2_eq 𝒱₀ (c : Thread nD τ) none Set.univ) rfl ((tot_eq 5 (by decide)).symm ▸ rfl) 1 (by decide)) $$ [HO Hc5 Ha5]
  · isplitr; · iexact HK
    isplitl [Hc5]; · iexact Hc5
    isplitl [HO] <;> iassumption
  iintro ⟨HO, Ha5, Hp⟩
  ihave Hmine := (Entails.of_eq (got_back1 m c)) $$ Hp
  iapply (wait_step m K c 11 (wpE_waitDma2_eq 𝒱₀ (c : Thread nD τ) none Set.univ) rfl ((tot_eq 11 (by decide)).symm ▸ rfl) 1 (by decide)) $$ [HO Hc11 Ha11]
  · isplitr; · iexact HK
    isplitl [Hc11]; · iexact Hc11
    isplitl [HO] <;> iassumption
  iintro ⟨HO, Ha11, Hp⟩
  ihave Hp := (Entails.of_eq (got_spread1 m c)) $$ Hp
  ihave Hacc := (Entails.of_eq (split1 c (total m)).symm) $$ [Hmine Hp]
  · isplitl [Hmine] <;> iassumption
  iapply (spread m K c _ (peer 0 c) 4 10 0 (dev9_eq c) rfl (aw0 c) (slice_eq (off9_eq c) _ _) (slice_eq (off9_eq c) _ _) rfl rfl (by decide) (by decide) rfl rfl
    (total m) (Entails.of_eq rfl) (Entails.of_eq (pay_spread0 m c).symm)) $$ [Hacc Hd0 HO Hts0 Htr0]
  · isplitr; · iexact HK
    isplitl [Hacc]; · iexact Hacc
    isplitl [Hd0]; · iexact Hd0
    isplitl [HO]; · iexact HO
    isplitl [Hts0] <;> iassumption
  iintro ⟨Hc4, HO⟩
  rw [wp_ret]; imodintro
  iapply Hk
  isplitl [HO]; · iexact HO
  isplitl [Hc4]; · iexact Hc4
  isplitl [Ha5] <;> iassumption

end Parts

end Cert.Cube

end
-- ==== Proof.Body.lean ====
/-
The kernel's body as a whole, and the obligation it discharges.
-/
module

public import proofs.«01_k».proof.Proof.Parts
public import proofs.«01_k».proof.Proof.Gen.KernelIdeal.Launch
public import proofs.«01_k».proof.Proof.Gen.KernelIdeal.Points

@[expose] public section

set_option maxRecDepth 16384

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The landing buffer's parts -/

/-- What no transfer lands on. -/
abbrev unused : Finset S3x256x512.Idx := ((Finset.univ \ slot 0) \ slot 1) \ slot 2
theorem slot1_sub : slot 1 ⊆ Finset.univ \ slot 0 :=
  Finset.subset_sdiff.mpr ⟨Finset.subset_univ _, rs01_disj.symm⟩
theorem slot2_sub : slot 2 ⊆ (Finset.univ \ slot 0) \ slot 1 :=
  Finset.subset_sdiff.mpr ⟨Finset.subset_sdiff.mpr ⟨Finset.subset_univ _, rs02_disj.symm⟩, rs12_disj.symm⟩
theorem rcv_split (c : Dev nD) : anyRcv (F := F) c Finset.univ
    ⊢ iprop(anyRcv (F := F) c (slot 0) ∗ anyRcv (F := F) c (slot 1) ∗ anyRcv (F := F) c (slot 2) ∗ anyRcv (F := F) c unused) := by
  iintro ⟨%f, H⟩
  ihave H := (pointsTo_split_subset (Finset.subset_univ (slot 0))).1 $$ H
  icases H with ⟨H0, H⟩
  ihave H := (pointsTo_split_subset slot1_sub).1 $$ H
  icases H with ⟨H1, H⟩
  ihave H := (pointsTo_split_subset slot2_sub).1 $$ H
  icases H with ⟨H2, H⟩
  isplitl [H0]; · iexists f; iexact H0
  isplitl [H1]; · iexists f; iexact H1
  isplitl [H2]; · iexists f; iexact H2
  iexists f; iexact H
/-- A part and the rest make the whole again. -/
theorem rcv_put (c : Dev nD) {I S : Finset S3x256x512.Idx} (h : I ⊆ S) :
    iprop(anyRcv (F := F) c I ∗ anyRcv (F := F) c (S \ I)) ⊢ anyRcv (F := F) c S := by
  iintro ⟨⟨%g, HI⟩, %f, H⟩
  iexists (I.piecewise g f)
  iapply (pointsTo_join_subset h)
  isplitl [HI] <;> iassumption
theorem rcv_join (c : Dev nD) : iprop(anyRcv (F := F) c (slot 0) ∗ anyRcv (F := F) c (slot 1) ∗ anyRcv (F := F) c (slot 2) ∗ anyRcv (F := F) c unused)
    ⊢ anyRcv (F := F) c Finset.univ :=
  (sep_mono_right ((sep_mono_right (rcv_put c slot2_sub)).trans (rcv_put c slot1_sub))).trans (rcv_put c (Finset.subset_univ _))

/-! ## What the body starts from and leaves -/

/-- The duties a device pays, by number: the three barriers', its own send cells', the partners' receive cells'. Cell,
    duty and payee. -/
def ckind (j : Fin 15) : Fin 13 := if j.val < 3 then 0 else ⟨j.val - 2, by omega⟩
def cduty (j : Fin 15) : Fin 3 := if h : j.val < 3 then ⟨j.val, h⟩ else 0
def who (j : Fin 15) : Dev nD ≃ Dev nD :=
  if h : j.val < 3 then swap ⟨j.val, h⟩ else if j.val < 9 then Equiv.refl _ else swap ⟨j.val % 3, Nat.mod_lt _ (by decide)⟩
/-- The right to pay duty `j` of device `c`, and the rights device `c` pays with. -/
abbrev tokJ (c : Dev nD) (j : Fin 15) : sProp 𝕄 := dutyTok ER (kcell (c, ckind j)) 0 (cduty j)
def payToks (c : Dev nD) : sProp 𝕄 := bigSep Finset.univ fun j : Fin 15 => tokJ (who j c) j

theorem payToks_eq (c : Dev nD) : payToks (F := F) c
    = iprop(tok (peer 0 c) 0 0 ∗ tok (peer 1 c) 0 1 ∗ tok (peer 2 c) 0 2 ∗ tok c 1 0 ∗ tok c 2 0 ∗ tok c 3 0 ∗ tok c 4 0 ∗ tok c 5 0 ∗ tok c 6 0
      ∗ tok (peer 0 c) 7 0 ∗ tok (peer 1 c) 8 0 ∗ tok (peer 2 c) 9 0 ∗ tok (peer 0 c) 10 0 ∗ tok (peer 1 c) 11 0 ∗ tok (peer 2 c) 12 0) :=
  bigSep_univ_eq_bigSepL [(0 : Fin 15), 1, 2, 3, 4, 5, 6, 7, 8, 9, 10, 11, 12, 13, 14] (by decide) (by decide) _

theorem bigSep_13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [(0 : Fin 13), 1, 2, 3, 4, 5, 6, 7, 8, 9, 10, 11, 12] (by decide) (by decide) Φ

/-- A device's ghost state at launch, its credit, and the two together. -/
def ghost (K : Dev nD × Fin 13 → ℕ) (c : Dev nD) : sProp 𝕄 :=
  iprop(know m K ∗ (bigSep Finset.univ fun k : Fin 13 => at0 c k) ∗ payToks c)
def dues (c : Dev nD) : sProp 𝕄 := iprop(due c 0 ∗ due c 7 ∗ due c 8 ∗ due c 9 ∗ due c 10 ∗ due c 11 ∗ due c 12)
def start (c : Dev nD) : sProp 𝕄 := iprop((∃ K, ghost m K c) ∗ dues c)

def Φ₀ (c : Dev nD) : sProp 𝕄 := iprop(start m c ∗ anyAcc c Finset.univ ∗ anyRcv c Finset.univ)
def Φ₁ (c : Dev nD) : sProp 𝕄 :=
  iprop((bigSep Finset.univ fun k : Fin 13 => semVal (kcell (c, k)) 0) ∗ anyAcc (F := F) c Finset.univ ∗ anyRcv (F := F) c Finset.univ)

/-- The cells close: all are back at zero. -/
theorem close_all (K : Dev nD × Fin 13 → ℕ) (c : Dev nD) :
    iprop(know m K ∗ bigSep Finset.univ fun k : Fin 13 => at1 c k) ⊢ |={Set.univ}=> (bigSep Finset.univ fun k : Fin 13 => semVal (kcell (c, k)) 0 : sProp 𝕄) := by
  refine (BI.bigSep_with_persistent (R := know m K) (Ψ := fun k : Fin 13 => iprop(|={Set.univ}=> semVal (kcell (c, k)) 0)) fun k _ => ?_).trans (bigSep_fupd _ _)
  iintro ⟨#HK, Ha⟩
  iapply (Rounds.cell_close ER (sched m) (Set.mem_univ (K (c, k))) (fun h => h) (R := 0 + 1) (duties_later m (kcell (c, k))))
  isplitr
  · iapply (know_inv m K (c, k)); iexact HK
  iexact Ha

/-- What the accumulator, the landing buffer and the staging buffers hold around the body's one point. -/
def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => rws m c
    | ⟨2, _⟩ => ids m c
    | ⟨3, _⟩ => ews m c
    | ⟨4, _⟩ => sws m c
    | ⟨5, _⟩ => outs m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ stgAt c b f)

def bodyPost (c : Dev nD) : sProp 𝕄 :=
  iprop(Φ₁ c ∗ (dats m 0 c).owesAt () t0_0.succ ∗ stg c cc0_stg0_0 (xs m c) ∗ stg c cc0_stg1_0 (rws m c) ∗ stg c cc0_stg2_0 (ids m c) ∗ stg c cc0_stg3_0 (ews m c) ∗ stg c cc0_stg4_0 (sws m c) ∗ stg c cc0_stg5_0 (outs m c))
def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d)) ∗ (∃ d, stg c cc0_stg2_0 ((dats m 0 c).before (2 : Fin 6) t0_0 d)) ∗ (∃ d, stg c cc0_stg3_0 ((dats m 0 c).before (3 : Fin 6) t0_0 d)) ∗ (∃ d, stg c cc0_stg4_0 ((dats m 0 c).before (4 : Fin 6) t0_0 d)) ∗ (∃ d, stg c cc0_stg5_0 ((dats m 0 c).before (5 : Fin 6) t0_0 d)))

/-- The body between the transfers' first wait and its end, from the blocks in the staging buffers to the result in its own. -/
theorem core_run (K : Dev nD × Fin 13 → ℕ) (c : Dev nD) (g : Vec F S512x512 .f32) (Kt : PUnit → sProp 𝕄) :
    iprop(ghost m K c ∗ dues c ∗ anyAcc c Finset.univ ∗ anyRcv c Finset.univ ∗ owesE c 9
        ∗ stgAt c cc0_stg0_0 (xs m c) ∗ stgAt c cc0_stg1_0 (rws m c) ∗ stgAt c cc0_stg2_0 (ids m c) ∗ stgAt c cc0_stg3_0 (ews m c) ∗ stgAt c cc0_stg4_0 (sws m c) ∗ stgAt c cc0_stg5_0 g
        ∗ ((owesE c 0 ∗ Φ₁ c ∗ stgAt c cc0_stg0_0 (xs m c) ∗ stgAt c cc0_stg1_0 (rws m c) ∗ stgAt c cc0_stg2_0 (ids m c) ∗ stgAt c cc0_stg3_0 (ews m c) ∗ stgAt c cc0_stg4_0 (sws m c) ∗ stgAt c cc0_stg5_0 (outs m c)) -∗ Kt ⟨⟩))
      ⊢ wp frame (wpE (defs₀ (F := F)) 𝒱₀ (c : Thread nD τ) none) Set.univ (cc0_body
      (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3) Kt := by
  simp only [cc0_body_eq_skeleton]; unfold cc0_body_skel
  simp only [Prog.lift, Prog.bind_op, Prog.bind_ret, Prog.pure_eq_ret]
  unfold ghost dues Φ₁
  rw [payToks_eq, bigSep_13, bigSep_13]
  iintro ⟨⟨#HK, ⟨Ha0, Ha1, Ha2, Ha3, Ha4, Ha5, Ha6, Ha7, Ha8, Ha9, Ha10, Ha11, Ha12⟩, Htb0, Htb1, Htb2, Ht1, Ht2, Ht3, Ht4, Ht5, Ht6, Ht7, Ht8, Ht9, Ht10, Ht11, Ht12⟩,
    ⟨Hc0, Hc7, Hc8, Hc9, Hc10, Hc11, Hc12⟩, Hacc, Hrcv, HO, Hx, Hr, Hi, He, Hw, Hout, Hk⟩
  ihave Hrcv := (rcv_split (F := F) c) $$ Hrcv
  icases Hrcv with ⟨Hs0, Hs1, Hs2, Hun⟩
  rw [wp_bind]
  iapply (part1_run m K c _)
  isplitr; · iexact HK
  isplitl [HO]; · iexact HO
  isplitl [Htb0]; · iexact Htb0
  isplitl [Htb1]; · iexact Htb1
  isplitl [Htb2]; · iexact Htb2
  isplitl [Hs0]; · iexact Hs0
  isplitl [Hs1]; · iexact Hs1
  isplitl [Hs2]; · iexact Hs2
  isplitl [Hc0]; · iexact Hc0
  isplitl [Ha0]; · iexact Ha0
  isplitl [Hx]; · iexact Hx
  isplitl [Hr]; · iexact Hr
  isplitl [Hi]; · iexact Hi
  iintro ⟨HO, Ha0, Hd0, Hd1, Hd2, Hx, Hr, Hi⟩
  dsimp only
  rw [wp_bind]
  iapply (part2_run m K c _)
  isplitr; · iexact HK
  isplitl [He]; · iexact He
  iintro He
  rw [wp_bind]
  iapply (part3_run m K c _ _)
  isplitr; · iexact HK
  isplitl [HO]; · iexact HO
  isplitl [Hacc]; · iexact Hacc
  isplitl [Hd0]; · iexact Hd0
  isplitl [Ht1]; · iexact Ht1
  isplitl [Ht7]; · iexact Ht7
  isplitl [Ha1]; · iexact Ha1
  isplitl [Hw]; · iexact Hw
  iintro %v78 %v83
  iintro ⟨HO, Hacc, Ha1, Hw⟩
  dsimp only
  rw [wp_bind]
  iapply (part4_run m K c _ _ _ _)
  isplitr; · iexact HK
  isplitl [HO]; · iexact HO
  isplitl [Hacc]; · iexact Hacc
  isplitl [Hc7]; · iexact Hc7
  isplitl [Ha7]; · iexact Ha7
  isplitl [Hd1]; · iexact Hd1
  isplitl [Ht2]; · iexact Ht2
  isplitl [Ht8]; · iexact Ht8
  iintro %v119 %v124
  iintro ⟨HO, Hacc, Hp0, Hs0, Ha7, Hc2⟩
  dsimp only
  rw [wp_bind]
  iapply (part5_run m K c _ _ _ _)
  isplitr; · iexact HK
  isplitl [HO]; · iexact HO
  isplitl [Hacc]; · iexact Hacc
  isplitl [Hc2]; · iexact Hc2
  isplitl [Ha2]; · iexact Ha2
  isplitl [Hc8]; · iexact Hc8
  isplitl [Ha8]; · iexact Ha8
  iintro %v157 %v162
  iintro ⟨HO, Hacc, Hp1, Hs1, Ha2, Ha8⟩
  dsimp only
  rw [wp_bind]
  iapply (part6_run m K c _ _ _)
  isplitr; · iexact HK
  isplitl [HO]; · iexact HO
  isplitl [Hacc]; · iexact Hacc
  isplitl [Hd2]; · iexact Hd2
  isplitl [Ht3]; · iexact Ht3
  isplitl [Ht9]; · iexact Ht9
  isplitl [Ha3]; · iexact Ha3
  isplitl [Hc9]; · iexact Hc9
  isplitl [Ha9]; · iexact Ha9
  iintro ⟨HO, Hacc, Hp2, Hs2, Ha3, Ha9⟩
  rw [wp_bind]
  iapply (part7_run m K c _ _ _)
  isplitr; · iexact HK
  isplitl [HO]; · iexact HO
  isplitl [Hacc]; · iexact Hacc
  isplitl [Hp2]; · iexact Hp2
  isplitl [Ht6]; · iexact Ht6
  isplitl [Ht12]; · iexact Ht12
  isplitl [Ha6]; · iexact Ha6
  isplitl [Hc12]; · iexact Hc12
  isplitl [Ha12]; · iexact Ha12
  iintro %v215 %v216
  iintro ⟨HO, Hacc, Ha6, Ha12⟩
  dsimp only
  rw [wp_bind]
  iapply (part8_run m K c _ _ _ _)
  isplitr; · iexact HK
  isplitl [HO]; · iexact HO
  isplitl [Hacc]; · iexact Hacc
  isplitl [Hp1]; · iexact Hp1
  isplitl [Ht5]; · iexact Ht5
  isplitl [Ht11]; · iexact Ht11
  isplitl [Ha5]; · iexact Ha5
  isplitl [Hc11]; · iexact Hc11
  isplitl [Ha11]; · iexact Ha11
  isplitl [Hp0]; · iexact Hp0
  isplitl [Ht4]; · iexact Ht4
  isplitl [Ht10]; · iexact Ht10
  iintro %v239
  iintro ⟨HO, Hc4, Ha5, Ha11⟩
  iapply (wait_step m K c 4 (wpE_waitDma2_eq 𝒱₀ (c : Thread nD τ) none Set.univ) rfl ((tot_eq 4 (by decide)).symm ▸ rfl) 0 (by decide)) $$ [HO Hc4 Ha4]
  · isplitr; · iexact HK
    isplitl [Hc4]; · iexact Hc4
    isplitl [HO] <;> iassumption
  iintro ⟨HO, Ha4, Hp⟩
  ihave Hmine := (Entails.of_eq (got_back0 m c)) $$ Hp
  iapply (wait_step m K c 10 (wpE_waitDma2_eq 𝒱₀ (c : Thread nD τ) none Set.univ) rfl ((tot_eq 10 (by decide)).symm ▸ rfl) 0 (by decide)) $$ [HO Hc10 Ha10]
  · isplitr; · iexact HK
    isplitl [Hc10]; · iexact Hc10
    isplitl [HO] <;> iassumption
  iintro ⟨HO, Ha10, Hp⟩
  ihave Hp := (Entails.of_eq (got_spread0 m c)) $$ Hp
  ihave Hacc := (Entails.of_eq (split0 c (total m)).symm) $$ [Hmine Hp]
  · isplitl [Hmine] <;> iassumption
  iapply (wp_load 𝒱₀ (c : Thread nD τ) none Set.univ (m := accM) (Finset.subset_univ _)) $$ Hacc; iintro Hacc
  rw [acc_read (total m)]
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := Rect.unit (s := S512x512) ![0, 0] S512x512.size inb_S512x512_S512x512_0_0) (Mk := Finset.univ) (Finset.subset_univ _)) $$ Hout; iintro Hout
  rw [out_write g (k0_pay1 (shared m c) (total m))]
  imod (close_all m K c) $$ [Ha0 Ha1 Ha2 Ha3 Ha4 Ha5 Ha6 Ha7 Ha8 Ha9 Ha10 Ha11 Ha12] with Hz
  · isplitr; · iexact HK
    rw [bigSep_13]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    iexact Ha12
  ihave Hz := (Entails.of_eq (bigSep_13 (F := F) fun k => semVal (kcell (c, k)) 0)) $$ Hz
  ihave Hrcv := (rcv_join (F := F) c) $$ [Hs0 Hs1 Hs2 Hun]
  · isplitl [Hs0]; · iexact Hs0
    isplitl [Hs1]; · iexact Hs1
    isplitl [Hs2] <;> iassumption
  rw [wp_ret]; imodintro
  iapply Hk
  isplitl [HO]; · iexact HO
  isplitl [Hz Hacc Hrcv]
  · isplitl [Hz]; · iexact Hz
    isplitl [Hacc]; · iexists total m; iexact Hacc
    iexact Hrcv
  isplitl [Hx]; · iexact Hx
  isplitl [Hr]; · iexact Hr
  isplitl [Hi]; · iexact Hi
  isplitl [He]; · iexact He
  isplitl [Hw]; · iexact Hw
  iexact Hout

theorem dats_A (c : Dev nD) (w : Fin 6) : (dats m 0 c).A w = V m c (Pipeline.arrRef spec0 w) := by
  fin_cases w <;> rfl

theorem sound_body (c : Dev nD) :
    bodyPre m c ⊢ wp frame (wpE (defs₀ (F := F)) 𝒱₀ (c : Thread nD τ) none) Set.univ (cc0_body
      (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3) (fun _ => bodyPost m c) := by
  unfold bodyPre Φ₀ start
  iintro ⟨⟨⟨⟨%K, Hg⟩, Hdue⟩, Hacc, Hrcv⟩, Ho, ⟨%d0, %g0, %h0, Hx⟩, ⟨%d1, %g1, %h1, Hr⟩, ⟨%d2, %g2, %h2, Hi⟩, ⟨%d3, %g3, %h3, He⟩, ⟨%d4, %g4, %h4, Hw⟩, ⟨%d5, %g5, %h5, Hout⟩⟩
  have e0 : g0 = xs m c := by rw [h0]; unfold Dat.before; rw [if_pos (fetch0_0 t0_0)]; rfl
  subst e0
  have e1 : g1 = rws m c := by rw [h1]; unfold Dat.before; rw [if_pos (fetch0_1 t0_0)]; rfl
  subst e1
  have e2 : g2 = ids m c := by rw [h2]; unfold Dat.before; rw [if_pos (fetch0_2 t0_0)]; rfl
  subst e2
  have e3 : g3 = ews m c := by rw [h3]; unfold Dat.before; rw [if_pos (fetch0_3 t0_0)]; rfl
  subst e3
  have e4 : g4 = sws m c := by rw [h4]; unfold Dat.before; rw [if_pos (fetch0_4 t0_0)]; rfl
  subst e4
  unfold Dat.owesAt Pipeline.owesWithin
  icases Ho with ⟨%W, %hW, HO⟩
  rw [show (dats m 0 c).owed t0_0.castSucc = owing c 9 from rfl]
  iapply (core_run m K c g5 fun _ => bodyPost m c)
  isplitl [Hg]; · iexact Hg
  isplitl [Hdue]; · iexact Hdue
  isplitl [Hacc]; · iexact Hacc
  isplitl [Hrcv]; · iexact Hrcv
  isplitl [HO]; · unfold owesE; iexists W; iexact HO
  isplitl [Hx]; · iexact Hx
  isplitl [Hr]; · iexact Hr
  isplitl [Hi]; · iexact Hi
  isplitl [He]; · iexact He
  isplitl [Hw]; · iexact Hw
  isplitl [Hout]; · iexact Hout
  unfold bodyPost owesE Dat.owesAt Pipeline.owesWithin
  rw [show (dats m 0 c).owed t0_0.succ = 0 from rfl]
  iintro ⟨⟨%W', HO⟩, HΦ, Hx, Hr, Hi, He, Hw, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  isplitl [Hw]
  · iexists _; isplitr; · (ipureintro; rfl)
    iexact Hw
  iexists _; isplitr; · (ipureintro; rfl)
  iexact Hout

/-- The body's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

end Cert.Cube

end
-- ==== Proof.Launch.lean ====
/-
The launch: the cells are set up, the duties dealt out, and the run of the whole program.
-/
module

public import proofs.«01_k».proof.Proof.Body
public import proofs.«01_k».proof.Proof.Gen.KernelIdeal.Frame
public import Idealize.ShloMosaic.Lib.Pipeline.CollectiveSegs
public import Idealize.ShloMosaic.Lib.Pipeline.ValueKit.Geometry

@[expose] public section

set_option maxRecDepth 16384

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The kernel's own semaphores: the send and the receive semaphores of the six transfers. -/
abbrev osem (i : Fin 12) : SemLoc sig := csem i.succ
theorem ownSemFacts : Pipeline.OwnSemFacts cfg0.spec osem := by decide
theorem share_eq (c : Dev nD) (w : Fin cfg0.W) : (dats m 0 c).share w = fullShare := by unfold Dat.share; split <;> rfl

/-! ## The cells and the rights to pay -/

def cubeCells : Finset (GSem nD τ sig) := Finset.univ.map ⟨kcell, kcell_injective⟩

/-- The rights as minted, by the cell's device and the duty's number. -/
abbrev tokOf (cj : Dev nD × Fin 15) : GSem nD τ sig × ℕ × Fin 3 := (kcell (cj.1, ckind cj.2), 0, cduty cj.2)
theorem tokOf_injective : Function.Injective tokOf := by
  rintro ⟨c, j⟩ ⟨c', j'⟩ h
  have h1 := kcell_injective (congrArg Prod.fst h)
  have h2 : cduty j = cduty j' := congrArg (fun x : GSem nD τ sig × ℕ × Fin 3 => x.2.2) h
  have h3 : ∀ i i' : Fin 15, ckind i = ckind i' → cduty i = cduty i' → i = i' := by decide
  rw [show c = c' from congrArg Prod.fst h1, h3 j j' (congrArg Prod.snd h1) h2]
def cubeToks : Finset (GSem nD τ sig × ℕ × Fin 3) := Finset.univ.map ⟨tokOf, tokOf_injective⟩

def u₀ : UU :=
  (initOf (Pipeline.cells cfgs cellOf_inj) (Pipeline.launchToks cfgs cellOf_inj), initOf cubeCells cubeToks)

/-- The positions of device `c` at launch, with the record that its cells have begun; the rights of its own cells. -/
def atStart (c : Dev nD) : sProp 𝕄 := bigSep Finset.univ fun k : Fin 13 => iprop(at0 c k ∗ reached ER (kcell (c, k)) 0)
def ownToks (c : Dev nD) : sProp 𝕄 := bigSep Finset.univ fun j : Fin 15 => tokJ (F := F) c j

/-- What the launch's resources give device `c`, and what is made of them. -/
def G (c : Dev nD) : sProp 𝕄 :=
  iprop((bigSep Finset.univ fun k : Fin 13 => roundState ER (sched m) (kcell (c, k)) 0) ∗ atStart (F := F) c ∗ ownToks (F := F) c)

/-- Every cell's invariant and the record that every cell has begun. -/
def records (K : Dev nD × Fin 13 → ℕ) : sProp 𝕄 :=
  iprop((bigSep Finset.univ fun ck : Dev nD × Fin 13 => cellInv ER (sched m) (K ck) (kcell ck))
    ∗ bigSep Finset.univ fun ck : Dev nD × Fin 13 => reached ER (kcell ck) 0)
instance records_persistent (K : Dev nD × Fin 13 → ℕ) : BI.Persistent (records m K) := by unfold records; infer_instance
def mine (c : Dev nD) : sProp 𝕄 := iprop((bigSep Finset.univ fun k : Fin 13 => at0 (F := F) c k) ∗ payToks (F := F) c)
def G' (c : Dev nD) : sProp 𝕄 := iprop(∃ K, records m K ∗ mine (F := F) c)

theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : Fin 13 => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => ownToks c := by
    unfold cubeToks; rw [bigSep_map, bigSep_univ_prod]; rfl
  iintro HX
  imod (Rounds.fund ER (sched m) cubeCells cubeToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G atStart; simp only [bigSep_sep']
  isplitl [Hst]; · iexact Hst
  isplitl [Hat Hr]
  · isplitl [Hat] <;> iassumption
  iexact Htok

/-! ## The semaphores of a device are its cells -/

theorem ownSems0_eq (c : Dev nD) : (Pipeline.ownSems0 (Ix := Unit) (Name := ℕ) (U := UU) (Lvl := ℕ) (Val := Elt F) (τ := τ) osem c : sProp 𝕄)
    = bigSep Finset.univ fun i : Fin 12 => semVal (kcell (c, i.succ)) 0 := rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl
theorem sems0_eq (c : Dev nD) :
    (bigSep Finset.univ fun k : Fin 13 => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, ownSems0_eq, bigSep_univ_eq_bigSepL [(0 : Fin 12), 1, 2, 3, 4, 5, 6, 7, 8, 9, 10, 11] (by decide) (by decide), bigSep_13]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ atStart (F := F) c ∗ ownToks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 13 => semVal (kcell (c, k)) 0) ∗ bigSep Finset.univ fun k : Fin 13 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_flip (Φ : Dev nD → Fin 15 → sProp 𝕄) : (bigSep Finset.univ fun c : Dev nD => bigSep Finset.univ fun j : Fin 15 => Φ c j)
    = bigSep Finset.univ fun j : Fin 15 => bigSep Finset.univ fun c : Dev nD => Φ c j := by
  rw [← bigSep_univ_prod fun cj : Dev nD × Fin 15 => Φ cj.1 cj.2, ← bigSep_univ_prod fun jc : Fin 15 × Dev nD => Φ jc.2 jc.1]
  exact bigSep_univ_equiv (Equiv.prodComm _ _) _
/-- Each right goes to the device that pays with it. -/
theorem toks_around : (bigSep Finset.univ fun c : Dev nD => (ownToks c : sProp 𝕄)) ⊢ bigSep Finset.univ fun c : Dev nD => payToks c := by
  unfold ownToks payToks
  rw [bigSep_flip, bigSep_flip fun (c : Dev nD) (j : Fin 15) => tokJ (F := F) (who j c) j]
  exact Entails.of_eq (bigSep_congr fun j _ => bigSep_univ_equiv (who j) fun c : Dev nD => tokJ (F := F) c j)

theorem regroup :
    (bigSep Finset.univ fun c : Dev nD => iprop((bigSep Finset.univ fun k => iprop(∃ κ : ℕ, cellInv ER (sched m) κ (kcell (c, k))))
          ∗ atStart (F := F) c ∗ ownToks (F := F) c) : sProp 𝕄)
      ⊢ bigSep Finset.univ (G' m) := by
  unfold atStart
  rw [bigSep_sep', bigSep_sep', ← bigSep_univ_prod (fun ck : Dev nD × Fin 13 => iprop(∃ κ : ℕ, cellInv ER (sched m) κ (kcell ck))),
    bigSep_congr (s := Finset.univ) (fun (c : Dev nD) _ => bigSep_sep' Finset.univ (fun k : Fin 13 => at0 (F := F) c k) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (sched m) κ (kcell ck) : sProp 𝕄))) $$ HI
  icases HK with ⟨%K, #HI⟩
  ihave Htk := (toks_around (F := F)) $$ Htok
  iapply (BI.bigSep_with_persistent (R := records m K) (Φ := mine (F := F)) fun c _ => show _ ⊢ G' m c by
    unfold G'; iintro H; iexists K; iexact H)
  isplitr
  · unfold records; isplitl; · iexact HI
    iexact HR
  · unfold mine; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a cell is owed at launch -/

/-- The round and the cell of payment `j`. -/
def dround : ℕ → Fin 3
  | 0 | 5 | 8 => 0
  | 1 | 4 | 7 => 1
  | 2 | 3 | 6 => 2
  | _ => 0
def dkind : ℕ → Fin 13
  | 0 => 10 | 1 => 11 | 2 => 12 | 3 => 9 | 4 => 8 | 5 => 7 | _ => 0
theorem dcell_eq (c : Dev nD) (j : ℕ) (h : j < 9) : dcell c j = (peer (dround j) c, dkind j) := by
  match j, h with
  | 0, _ | 1, _ | 2, _ | 3, _ | 4, _ | 5, _ | 6, _ | 7, _ | 8, _ => rfl

theorem owing_apply (d : Dev nD) (n : ℕ) (g : GSem nD τ sig) :
    owing d n g () = ∑ j ∈ Finset.range n, if g = kcell (dcell d j) then amt (dcell d j).2.val else 0 := by
  induction n with
  | zero => rfl
  | succ n ih =>
    rw [Finset.sum_range_succ, ← ih]
    show (owing d n + tallyAt (kcell (dcell d n)) () (amt (dcell d n).2.val)) g () = _
    rw [Pi.add_apply, Finsupp.add_apply, tallyAt_apply]
    congr 1
    by_cases h : g = kcell (dcell d n)
    · rw [if_pos ⟨h, rfl⟩, if_pos h]
    · rw [if_neg (fun h' => h h'.1), if_neg h]

/-- All devices together owe cell `k` of device `c` one payment for each payment made to a cell `k`. -/
theorem owed (c : Dev nD) (k : Fin 13) :
    ∑ d : Dev nD, O₀ d (kcell (c, k)) () = ∑ j ∈ Finset.range 9, if k = dkind j then amt k.val else 0 := by
  simp only [owing_apply]
  rw [Finset.sum_comm]
  refine Finset.sum_congr rfl fun j hj => ?_
  have hj : j < 9 := Finset.mem_range.mp hj
  rw [← Equiv.sum_comp (swap (dround j))]
  refine (Finset.sum_congr rfl fun d _ => ?_).trans ((Finset.sum_ite_eq Finset.univ c fun _ => if k = dkind j then amt k.val else 0).trans (if_pos (Finset.mem_univ _)))
  rw [dcell_eq _ j hj, show peer (dround j) (swap (dround j) d) = d from peer_peer _ _]
  by_cases hc : c = d
  · subst hc
    rw [if_pos rfl]
    by_cases hk : k = dkind j
    · subst hk; rw [if_pos rfl, if_pos rfl]
    · rw [if_neg hk, if_neg fun h => hk (congrArg Prod.snd (kcell_injective h))]
  · rw [if_neg hc, if_neg fun h => hc (congrArg Prod.fst (kcell_injective h))]

/-- The cells paid by other devices. -/
def owedTo : List (Fin 13) := [0, 7, 8, 9, 10, 11, 12]
theorem owed_tot (c : Dev nD) (k : Fin 13) (hk : k ∈ owedTo) : ∑ d : Dev nD, O₀ d (kcell (c, k)) () = tot k.val := by
  rw [owed]
  simp only [Finset.sum_range_succ, Finset.sum_range_zero, dkind]
  unfold tot
  simp only [owedTo, List.mem_cons, List.not_mem_nil, or_false] at hk
  rcases hk with rfl | rfl | rfl | rfl | rfl | rfl | rfl <;> simp [dutiesOf, Fin.ext_iff] <;> rfl

theorem launch_due (c : Dev nD) (k : Fin 13) (hk : k ∈ owedTo) :
    tallyOn (kcell (c, k)) (launchCredit (Pipeline.owing O₀) 0 (kcell (c, k))) = (tallyAt (kcell (c, k)) () (tot k.val) : CellTallies nD τ sig Unit) := by
  unfold tallyAt; refine congrArg _ (Finsupp.ext fun u => ?_); cases u
  rw [Pipeline.launchCredit_owing, Finsupp.single_eq_same, owed_tot c k hk]

theorem creds (c : Dev nD) : (Pipeline.launchCred O₀ c : sProp 𝕄) ⊢ dues c := by
  unfold Pipeline.launchCred
  refine (bigSep_subset (Finset.subset_univ ((owedTo.toFinset).map ⟨csem, csem_injective⟩))).trans ?_
  rw [bigSep_map]
  refine (bigSep_mono (Ψ := fun k => due (F := F) c k) fun k hk => Entails.of_eq (congrArg cred (launch_due c k (List.mem_toFinset.mp hk)))).trans ?_
  rw [bigSep_eq_bigSepL_of_eq owedTo rfl (by decide)]
  rfl

/-! ## The side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' records mine ghost know
  icases HG with ⟨%K, ⟨HI, HR⟩, Hat, Htok⟩
  isplitl
  · isplitl [HI HR Hlev Hat Htok]
    · iexists K
      isplitl [HI HR Hlev]
      · isplitl [HI]; · iexact HI
        isplitl [HR]; · iexact HR
        iexact Hlev
      isplitl [Hat]; · iexact Hat
      iexact Htok
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Ha, Hr⟩
  isplitl [Hs]; · iexact Hs
  isplitl [Ha]; · iexact Ha
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [sems0_eq]
  iintro ⟨⟨Hb, Ho⟩, Ha, Hr⟩
  isplitl [Hb]; · iexact Hb
  isplitl [Ho]; · iexact Ho
  isplitl [Ha]; · iexact Ha
  iexact Hr

theorem waits (c : Dev nD) : (levAts L lv : sProp 𝕄) ⊢ Pipeline.cellsWaits cfgs (dats m) () 0 c :=
  Pipeline.cellsWaits_intro cfgs (dats m) () 0 c fun w s t => by
    have hk : rankOf (kind (.dma ((cfg0.win w).sem s))) = 0 := by fin_cases w <;> fin_cases s <;> rfl
    have hd : ∀ j < 9, 0 < rankOf (dkind j).val := by decide
    rcases t with ⟨_ | _, ht⟩
    · exact mayWait c _ 9 fun j hj => by rw [hk, dcell_eq c j hj]; exact hd j hj
    · exact mayWait c _ 0 fun j hj => absurd hj (Nat.not_lt_zero j)

/-! ## The run -/

/-- What window `w`'s array of device `c` holds in the end. -/
def final (c : Dev nD) (w : Fin cfg0.W) : Buf (Elt F) ((cfg0.win w).arr.view.loc (c : Thread nD τ)) := (dats m 0 c).arrAt w cfg0.N

set_option maxRecDepth 8000 in
/-- For any float values, from any memory with all counters at zero: every weakly fair execution of the program on the
    eight devices ends, each device's arrays at their final contents and every semaphore at zero. -/
theorem run_arrays : θ_run defs (onTc (τ := τ) (main (F := F))) (s₀ m ρ)
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cube m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends at the result. -/
theorem final_out (c : Dev nD) : final m c (5 : Fin 6) = outs m c := by
  exact (dats m 0 c).arrAt_eq_of_after_last (5 : Fin 6) t0_0 (by decide) _ fun j => rfl

/-- The run in full: on every device the result is `outs`, the arguments are as before, and every semaphore is zero. -/
theorem run_main : θ_run defs (onTc (τ := τ) (main (F := F))) ⟨m, fun _ => 0, ρ⟩ (fun r =>
    (∀ c : Dev nD, r.2.mem ((c : Thread nD τ).loc main_v1) = outs m c
      ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))) ∧ r.2.sem = fun _ => 0) :=
  (θ_run defs _ _).mono (fun _ h => ⟨fun c => ⟨(h.1 c (5 : Fin 6)).trans (final_out m c),
    (h.1 c (0 : Fin 6)).trans ((dats m 0 c).arrAt_in (0 : Fin 6) rfl _),
    (h.1 c (1 : Fin 6)).trans ((dats m 0 c).arrAt_in (1 : Fin 6) rfl _),
    (h.1 c (2 : Fin 6)).trans ((dats m 0 c).arrAt_in (2 : Fin 6) rfl _),
    (h.1 c (3 : Fin 6)).trans ((dats m 0 c).arrAt_in (3 : Fin 6) rfl _),
    (h.1 c (4 : Fin 6)).trans ((dats m 0 c).arrAt_in (4 : Fin 6) rfl _)⟩, h.2⟩) (run_arrays m ρ)

end Cert.Cube

end
-- ==== Proof.Frames.lean ====
/- Every program runs to its end, faults nowhere, and leaves its arguments unchanged and every semaphore at zero. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Cube

open Idealize.ShloMosaic Idealize.SL.Sem

/-- The two printings of the kernel have the same body table. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨n + 1, h⟩, _ => exact absurd h (by simp)

/-- And the same table of labels. -/
theorem tables_eq : Cert.Kernel.defs (F := Bits) = Cert.KernelIdeal.defs (F := Bits) :=
  congrArg (Pipeline.defs (Cert.KernelIdeal.pcfgs (F := Bits))) bodies_eq

/-- The kernel as printed. -/
theorem frame_kernel : Cert.quiescent_Kernel := fun m ρ _ => by
  have h := (θ_run Cert.KernelIdeal.defs _ _).mono (fun _ h => And.intro (fun c => (h.1 c).2) h.2) (run_main (F := Bits) m ρ)
  rw [← tables_eq] at h
  exact h

/-- The kernel over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Cube

end
-- ==== Proof.Softmax.lean ====
/-
The router's probabilities: the kernel's softmax is the reference's, and over finite tokens and finite
router weights every probability is a real number that is not negative.
-/
module

public import proofs.«01_k».proof.Proof.Mesh
public import Idealize.ShloMosaic.PureOps.Ideal.Laws
public import Idealize.ShloMosaic.Lib.KernelVsHost
public import Idealize.ShloMosaic.Lib.MatmulPlain
public import Idealize.ShloMosaic.Lib.ValueIdx
public import Idealize.ShloMosaic.Lib.ValueLayoutCasts

@[expose] public section

set_option maxRecDepth 16384

noncomputable section

namespace Cert.Cube

open Cert.KernelIdeal Cert.KernelIdeal.Gen
open Idealize.ShloMosaic Idealize.ShloMosaic.ValueIdx
open scoped BigOperators

/-- The router's scores: each token against each expert's weights. -/
def scores (x : FVec Ideal S512x256 .bf16) (rw_ : FVec Ideal S256x16 .bf16) : FVec Ideal S512x16 .f32 :=
  matmul dot_S512x256_S256x16_S512x16_1_0_0_1_n_n none x rw_ (constant S512x16 .f32 0x00000000#32)

/-- One number per token, laid along the sixteen experts. -/
def spreadRow (v : FVec Ideal S512 .f32) : FVec Ideal S512x16 .f32 :=
  broadcastTo S512x16 (shapeCast S512x1 v shapeCasts_S512_S512x1) broadcasts_S512x1_S512x16

/-- Each token's largest score. -/
def rowMax (s : FVec Ideal S512x16 .f32) : FVec Ideal S512 .f32 :=
  multiReduction .maximumf [1] S512 s 0xFF800000#32 reduces_S512x16_S512 (.inl rfl) rfl

/-- Each token's sum over the experts. -/
def rowSum (s : FVec Ideal S512x16 .f32) : FVec Ideal S512 .f32 :=
  multiReduction .add [1] S512 s 0x00000000#32 reduces_S512x16_S512 (.inl rfl) rfl

/-- The exponentials of the scores below their largest. -/
def weights (s : FVec Ideal S512x16 .f32) : FVec Ideal S512x16 .f32 := exp (subf s (spreadRow (rowMax s)))

/-- The kernel's softmax, step by step. -/
theorem probs_eq (x : FVec Ideal S512x256 .bf16) (rw_ : FVec Ideal S256x16 .bf16) :
    k0_pay3 x rw_ = divf (weights (scores x rw_)) (spreadRow (rowSum (weights (scores x rw_)))) := by
  unfold k0_pay3 k0_pay2 weights scores
  rw [shapeCast_self, shapeCast_self]
  rfl

theorem spreadRow_apply (v : FVec Ideal S512 .f32) (t : Fin 512) (e : Fin 16) : spreadRow v (ix2 t e) = v (ix1 t) := by
  unfold spreadRow
  rw [broadcastTo_apply _ _ _ (ix2 t (0 : Fin 1)) (fun a => match a with | ⟨0, _⟩ => rfl | ⟨1, _⟩ => rfl),
    shapeCast_a_a1_apply]

/-- The index a reduction over the experts reads, by its coordinates. -/
theorem lift_eq (t : Fin 512) (e : Fin 16) : reduces_S512x16_S512.lift (ix1 t) e = ix2 t e := by
  funext a
  refine Fin.ext ((Shape.Reduces.lift_val _ _ _ _).trans ?_)
  match a with
  | ⟨0, _⟩ => rfl
  | ⟨1, _⟩ => rfl

theorem rowSum_apply (s : FVec Ideal S512x16 .f32) (t : Fin 512) : rowSum s (ix1 t) = ∑ e : Fin 16, s (ix2 t e) :=
  (Ideal.multiReduction_add_single s _ reduces_S512x16_S512 (.inl rfl) rfl (ix1 t)).trans
    (Finset.sum_congr rfl fun e _ => congrArg s (lift_eq t e))

theorem rowMax_apply (s : FVec Ideal S512x16 .f32) (t : Fin 512) :
    rowMax s (ix1 t) = (Finset.univ : Finset (Fin 16)).fold max (⊥ : EReal) fun e => s (ix2 t e) := by
  have h : (FloatOps.ofBits .f32 (FKind.maximumf.neutral .f32 (.inl rfl)) : Ideal .f32) = (⊥ : EReal) := by
    show Ideal.ofBits .f32 0xFF800000#32 = ⊥
    simp [Ideal.ofBits, Ideal.ieee]
  refine (Ideal.multiReduction_maximumf_single s _ reduces_S512x16_S512 (.inl rfl) rfl (ix1 t)).trans ?_
  rw [h]
  exact Finset.fold_congr fun e _ => congrArg s (lift_eq t e)

theorem zeros_apply {s : Shape} (i : s.Idx) : (constant s .f32 0x00000000#32 : FVec Ideal s .f32) i = 0 := Ideal.ofBits_zero_f32

theorem scores_apply (x : FVec Ideal S512x256 .bf16) (rw_ : FVec Ideal S256x16 .bf16) (t : Fin 512) (e : Fin 16) :
    scores x rw_ (ix2 t e) = ∑ k : Fin 256, x (ix2 t k) * rw_ (ix2 k e) :=
  (Ideal.matmul_plain_apply (M := 512) (K := 256) (N := 16) none x rw_ (constant S512x16 .f32 0x00000000#32) t e).trans
    ((congrArg (· + _) (zeros_apply _)).trans (zero_add _))

/-- A finite sum of reals is real. -/
theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- A score of finite tokens and weights is real. -/
theorem scores_real (x : FVec Ideal S512x256 .bf16) (rw_ : FVec Ideal S256x16 .bf16)
    (hx : ∀ i, ∃ r : ℝ, x i = (r : EReal)) (hw : ∀ i, ∃ r : ℝ, rw_ i = (r : EReal)) (t : Fin 512) (e : Fin 16) :
    ∃ r : ℝ, scores x rw_ (ix2 t e) = (r : EReal) := by
  choose X hX using hx
  choose W hW using hw
  refine ⟨∑ k : Fin 256, X (ix2 t k) * W (ix2 k e), ?_⟩
  rw [scores_apply, coe_sum]
  refine Finset.sum_congr rfl fun k _ => ?_
  rw [hX, hW, EReal.coe_mul]

/-- The largest of sixteen reals is real. -/
theorem rowMax_real (s : FVec Ideal S512x16 .f32) (t : Fin 512) (hs : ∀ e, ∃ r : ℝ, s (ix2 t e) = (r : EReal)) :
    ∃ r : ℝ, rowMax s (ix1 t) = (r : EReal) := by
  choose S hS using hs
  have hlt : rowMax s (ix1 t) < ⊤ := by
    rw [rowMax_apply, Finset.fold_max_lt]
    exact ⟨bot_lt_top, fun e _ => by rw [hS]; exact EReal.coe_lt_top _⟩
  have hgt : ⊥ < rowMax s (ix1 t) := by
    rw [rowMax_apply]
    refine lt_of_lt_of_le (EReal.bot_lt_coe (S 0)) ?_
    rw [Finset.le_fold_max]
    exact Or.inr ⟨0, Finset.mem_univ _, (hS 0).ge⟩
  exact ⟨_, (EReal.coe_toReal hlt.ne hgt.ne').symm⟩

/-- A weight is a positive real. -/
theorem weights_real (s : FVec Ideal S512x16 .f32) (t : Fin 512) (hs : ∀ e, ∃ r : ℝ, s (ix2 t e) = (r : EReal)) (e : Fin 16) :
    ∃ r : ℝ, 0 < r ∧ weights s (ix2 t e) = (r : EReal) := by
  obtain ⟨m, hm⟩ := rowMax_real s t hs
  obtain ⟨a, ha⟩ := hs e
  refine ⟨Real.exp (a - m), Real.exp_pos _, ?_⟩
  show Ideal.exp (s (ix2 t e) - spreadRow (rowMax s) (ix2 t e)) = _
  rw [spreadRow_apply, hm, ha, ← EReal.coe_sub, Ideal.exp_coe]

/-- A probability is a real number, not negative. -/
theorem probs_real (x : FVec Ideal S512x256 .bf16) (rw_ : FVec Ideal S256x16 .bf16)
    (hx : ∀ i, ∃ r : ℝ, x i = (r : EReal)) (hw : ∀ i, ∃ r : ℝ, rw_ i = (r : EReal)) (t : Fin 512) (e : Fin 16) :
    ∃ r : ℝ, 0 ≤ r ∧ k0_pay3 (F := Ideal) x rw_ (ix2 t e) = (r : EReal) := by
  have hs := scores_real x rw_ hx hw t
  choose P hP hPe using weights_real (scores x rw_) t hs
  have hsum : 0 < ∑ e, P e := Finset.sum_pos (fun e _ => hP e) Finset.univ_nonempty
  refine ⟨P e * (1 / ∑ e, P e), mul_nonneg (hP e).le (one_div_nonneg.2 hsum.le), ?_⟩
  rw [probs_eq]
  show Ideal.div (weights (scores x rw_) (ix2 t e)) (spreadRow (rowSum (weights (scores x rw_))) (ix2 t e)) = _
  rw [spreadRow_apply, rowSum_apply, hPe, Finset.sum_congr rfl fun e _ => hPe e, ← coe_sum, Ideal.div_coe hsum.ne', EReal.coe_mul]

end Cert.Cube

end
-- ==== Proof.Values.lean ====
/-
The kernel's result at an element: a device's partial sum is its two experts' share, the eight partial
sums add up to the sixteen experts' shares, and of those only the token's own expert's is not zero.
-/
module

public import proofs.«01_k».proof.Proof.Softmax
public import Idealize.ShloMosaic.Lib.ValueLayout
public import Idealize.ShloMosaic.Lib.WordCmp

@[expose] public section

set_option maxRecDepth 16384

noncomputable section

namespace Cert.Cube

open Cert.KernelIdeal Cert.KernelIdeal.Gen
open Idealize.ShloMosaic Idealize.ShloMosaic.TcCoe Idealize.ShloMosaic.ValueIdx
open scoped BigOperators

/-! ## One expert's share -/

/-- Which probabilities a token gives to the expert numbered `e`: its own, where it is routed there. -/
def chosen (e : BitVec 32) (id_ : IVec S512x1 32) (P : FVec Ideal S512x16 .f32) : FVec Ideal S512x16 .f32 :=
  select (andi (cmpi .eq (iota .tc S512x16 32 [1] iota_S512x16_d1_w32) (broadcast S512x16 e))
    (broadcastTo S512x16 (cmpi .eq id_ (broadcast S512x1 e)) broadcasts_S512x1_S512x16)) P (broadcast S512x16 (Scalar.ofBits .f32 0x00000000#32))

/-- The tokens weighted by their probability for the expert numbered `e`. -/
def weighted (e : BitVec 32) (x : FVec Ideal S512x256 .bf16) (id_ : IVec S512x1 32) (P : FVec Ideal S512x16 .f32) : FVec Ideal S512x256 .bf16 :=
  truncf .bf16 (mulf (extf .f32 x bitsLt_bf16_f32) (broadcastTo S512x256 (shapeCast S512x1 (rowSum (chosen e id_ P)) shapeCasts_S512_S512x1) broadcasts_S512x1_S512x256)) bitsLt_bf16_f32

/-- The weighted tokens against the expert's weights. -/
def share (e : BitVec 32) (x : FVec Ideal S512x256 .bf16) (id_ : IVec S512x1 32) (P : FVec Ideal S512x16 .f32) (w : FVec Ideal S1x256x512 .bf16) : FVec Ideal S512x512 .f32 :=
  matmul dot_S512x256_S256x512_S512x512_1_0_0_1_n_n none (weighted e x id_ P) (shapeCast S256x512 w shapeCasts_S1x256x512_S256x512) (constant S512x512 .f32 0x00000000#32)

/-- A partial sum is the two experts' shares, from zero. -/
theorem pay5_eq (r : BitVec 32) (x : FVec Ideal S512x256 .bf16) (P : FVec Ideal S512x16 .f32) (id_ : IVec S512x1 32) (w0 w1 : FVec Ideal S1x256x512 .bf16) (i : S512x512.Idx) :
    k0_pay5 (F := Ideal) r x P id_ (iota .tc S512x16 32 [1] iota_S512x16_d1_w32) w0 w1 i
      = 0 + share (Scalar.addi (Scalar.muli r 2#32) 0#32) x id_ P w0 i + share (Scalar.addi (Scalar.muli r 2#32) 1#32) x id_ P w1 i := by
  refine Eq.trans (b := (Scalar.ofBits .f32 0x00000000#32 : Ideal .f32) + share (Scalar.addi (Scalar.muli r 2#32) 0#32) x id_ P w0 i + share (Scalar.addi (Scalar.muli r 2#32) 1#32) x id_ P w1 i) rfl ?_
  exact congrArg (· + _ + _) Ideal.ofBits_zero_f32

theorem word_iff (f e : Fin 16) : BitVec.ofNat 32 f.val = BitVec.ofNat 32 e.val ↔ f = e := by revert f e; decide

theorem chosen_apply (e : Fin 16) (id_ : IVec S512x1 32) (P : FVec Ideal S512x16 .f32) (t : Fin 512) (f : Fin 16) :
    chosen (BitVec.ofNat 32 e.val) id_ P (ix2 t f) = if id_ (ix2 t (0 : Fin 1)) = BitVec.ofNat 32 e.val ∧ f = e then P (ix2 t e) else 0 := by
  have hi : iota .tc S512x16 32 [1] iota_S512x16_d1_w32 (ix2 t f) = BitVec.ofNat 32 f.val := iota_single_apply ..
  have hb : broadcastTo S512x16 (cmpi .eq id_ (broadcast S512x1 (BitVec.ofNat 32 e.val))) broadcasts_S512x1_S512x16 (ix2 t f)
      = IntOp.cmpi .eq (id_ (ix2 t (0 : Fin 1))) (BitVec.ofNat 32 e.val) :=
    broadcastTo_apply _ _ _ (ix2 t (0 : Fin 1)) (fun a => match a with | ⟨0, _⟩ => rfl | ⟨1, _⟩ => rfl)
  have hf : BitVec.ofNat 32 f.val = BitVec.ofNat 32 e.val ↔ f = e := word_iff f e
  show Scalar.select (IntOp.andi (IntOp.cmpi .eq (iota .tc S512x16 32 [1] iota_S512x16_d1_w32 (ix2 t f)) (BitVec.ofNat 32 e.val))
    (broadcastTo S512x16 (cmpi .eq id_ (broadcast S512x1 (BitVec.ofNat 32 e.val))) broadcasts_S512x1_S512x16 (ix2 t f))) (P (ix2 t f)) (Ideal.ofBits .f32 0x00000000#32) = _
  rw [hi, hb, Ideal.ofBits_zero_f32]
  by_cases h : id_ (ix2 t (0 : Fin 1)) = BitVec.ofNat 32 e.val ∧ f = e
  · rw [if_pos h, IntOp.cmpi_eq.2 h.1, h.2, IntOp.cmpi_eq.2 rfl]
    exact select_one _ _
  · rw [if_neg h, eq_zero_of_ne_one (b := IntOp.andi _ _) fun hc => h ?_]
    · exact select_zero _ _
    · obtain ⟨h1, h2⟩ := IntOp.andi_eq_one.1 hc
      exact ⟨IntOp.cmpi_eq.1 h2, hf.1 (IntOp.cmpi_eq.1 h1)⟩

/-- A token's weight for an expert: its probability where it is routed there, zero elsewhere. -/
theorem weight_apply (e : Fin 16) (id_ : IVec S512x1 32) (P : FVec Ideal S512x16 .f32) (t : Fin 512) :
    rowSum (chosen (BitVec.ofNat 32 e.val) id_ P) (ix1 t) = if id_ (ix2 t (0 : Fin 1)) = BitVec.ofNat 32 e.val then P (ix2 t e) else 0 := by
  rw [rowSum_apply, Finset.sum_congr rfl fun f _ => chosen_apply e id_ P t f]
  by_cases h : id_ (ix2 t (0 : Fin 1)) = BitVec.ofNat 32 e.val
  · rw [if_pos h, Finset.sum_eq_single e (fun f _ hf => if_neg fun hc => hf hc.2) (fun hn => absurd (Finset.mem_univ _) hn), if_pos ⟨h, rfl⟩]
  · rw [if_neg h]
    exact Finset.sum_eq_zero fun f _ => if_neg fun hc => h hc.1

theorem weighted_apply (e : BitVec 32) (x : FVec Ideal S512x256 .bf16) (id_ : IVec S512x1 32) (P : FVec Ideal S512x16 .f32) (t : Fin 512) (k : Fin 256) :
    weighted e x id_ P (ix2 t k) = x (ix2 t k) * rowSum (chosen e id_ P) (ix1 t) := by
  refine congrArg (x (ix2 t k) * ·) ?_
  exact (broadcastTo_apply _ _ _ (ix2 t (0 : Fin 1)) (fun a => match a with | ⟨0, _⟩ => rfl | ⟨1, _⟩ => rfl)).trans (shapeCast_a_a1_apply _ _ t 0)

/-- A factor that is a real and not negative comes out of a sum. -/
theorem mul_sum_of_real {ι : Type} (s : Finset ι) (r : ℝ) (hr : 0 ≤ r) (f : ι → EReal) : ∑ k ∈ s, (r : EReal) * f k = (r : EReal) * ∑ k ∈ s, f k := by
  classical
  induction s using Finset.induction_on with
  | empty => simp
  | insert a s h ih =>
    rw [Finset.sum_insert h, Finset.sum_insert h, ih, EReal.left_distrib_of_nonneg_of_ne_top (EReal.coe_nonneg.2 hr) (EReal.coe_ne_top r)]

/-- An expert's share: its probability times the token against its weights where the token is routed to it, zero elsewhere. -/
theorem share_apply (e : Fin 16) (x : FVec Ideal S512x256 .bf16) (id_ : IVec S512x1 32) (P : FVec Ideal S512x16 .f32)
    (hP : ∀ t e, ∃ r : ℝ, 0 ≤ r ∧ P (ix2 t e) = (r : EReal)) (w : FVec Ideal S1x256x512 .bf16) (t j : Fin 512) :
    share (BitVec.ofNat 32 e.val) x id_ P w (ix2 t j)
      = if id_ (ix2 t (0 : Fin 1)) = BitVec.ofNat 32 e.val then P (ix2 t e) * ∑ k : Fin 256, x (ix2 t k) * w (ix3 (0 : Fin 1) k j) else 0 := by
  refine (Ideal.matmul_plain_apply (M := 512) (K := 256) (N := 512) none _ _ (constant S512x512 .f32 0x00000000#32) t j).trans
    (((congrArg (· + _) (zeros_apply _)).trans (zero_add _)).trans ?_)
  have hw (k : Fin 256) : shapeCast S256x512 w shapeCasts_S1x256x512_S256x512 (ix2 k j) = w (ix3 (0 : Fin 1) k j) := shapeCast_1ab_ab_apply ..
  have hterm (k : Fin 256) : weighted (BitVec.ofNat 32 e.val) x id_ P (ix2 t k) * shapeCast S256x512 w shapeCasts_S1x256x512_S256x512 (ix2 k j)
      = (if id_ (ix2 t (0 : Fin 1)) = BitVec.ofNat 32 e.val then P (ix2 t e) else 0) * (x (ix2 t k) * w (ix3 (0 : Fin 1) k j)) := by
    rw [hw, weighted_apply, weight_apply, mul_comm (x (ix2 t k)), mul_assoc]
  refine (Finset.sum_congr rfl fun k _ => hterm k).trans ?_
  by_cases h : id_ (ix2 t (0 : Fin 1)) = BitVec.ofNat 32 e.val
  · obtain ⟨r, hr, hPr⟩ := hP t e
    rw [if_pos h, if_pos h, hPr, mul_sum_of_real _ r hr]
  · rw [if_neg h, if_neg h]
    exact Finset.sum_eq_zero fun k _ => zero_mul _

/-! ## The sum over the devices -/

/-- The halving rounds add up all eight devices' values, in whatever order a device meets them. -/
theorem cube_sum (f : Dev nD → EReal) (o : Dev nD) :
    ((f o + f (peer 0 o)) + (f (peer 1 o) + f (peer 0 (peer 1 o))))
      + ((f (peer 2 o) + f (peer 0 (peer 2 o))) + (f (peer 1 (peer 2 o)) + f (peer 0 (peer 1 (peer 2 o))))) = ∑ c : Fin 8, f c := by
  have hp : [o, peer 0 o, peer 1 o, peer 0 (peer 1 o), peer 2 o, peer 0 (peer 2 o), peer 1 (peer 2 o), peer 0 (peer 1 (peer 2 o))].Perm (List.finRange 8) := by
    revert o; decide
  rw [Fin.sum_univ_def, ← (hp.map f).sum_eq]
  simp only [List.map_cons, List.map_nil, List.sum_cons, List.sum_nil, add_zero, add_assoc]

/-- The expert a device holds at place `k`. -/
def expert (c : Fin 8) (k : Fin 2) : Fin 16 := ⟨2 * c.val + k.val, by omega⟩

/-- The eight devices' two experts are the sixteen. -/
theorem expert_sum (T : Fin 16 → EReal) : ∑ c : Fin 8, (T (expert c 0) + T (expert c 1)) = ∑ e : Fin 16, T e := by
  have h : (List.finRange 16).map T = (List.finRange 8).flatMap fun c => [T (expert c 0), T (expert c 1)] := by
    have h16 : List.finRange 16 = (List.finRange 8).flatMap fun c => [expert c 0, expert c 1] := by decide
    rw [h16, List.map_flatMap]
    rfl
  rw [Fin.sum_univ_def, Fin.sum_univ_def, h, List.flatMap_def, List.sum_flatten, List.map_map]
  refine congrArg List.sum (congrArg (List.map · _) (funext fun c => ?_))
  show _ = [T (expert c 0), T (expert c 1)].sum
  rw [List.sum_cons, List.sum_singleton]

/-- The number a device compares the tokens' experts with is its expert's. -/
theorem rank_word0 (c : Dev nD) : Scalar.addi (Scalar.muli (rank c) 2#32) 0#32 = BitVec.ofNat 32 (expert c 0).val := by revert c; decide
theorem rank_word1 (c : Dev nD) : Scalar.addi (Scalar.muli (rank c) 2#32) 1#32 = BitVec.ofNat 32 (expert c 1).val := by revert c; decide

/-! ## What the devices are given -/

variable (m : (ℓ : Loc nD τ sig) → Buf (Elt Ideal) ℓ)

theorem xs_eq (c : Dev nD) : xs m c = m ((c : Thread nD τ).loc main_arg0) := by
  funext i
  unfold xs
  blk_ext [iblk, V]
  all_goals exact (congrArg (· + _) (Nat.zero_mul _)).trans (Nat.zero_add _)

theorem rws_eq (c : Dev nD) : rws m c = m ((c : Thread nD τ).loc main_arg1) := by
  funext i
  unfold rws
  blk_ext [iblk, V]
  all_goals exact (congrArg (· + _) (Nat.zero_mul _)).trans (Nat.zero_add _)

theorem ids_eq (c : Dev nD) : ids m c = m ((c : Thread nD τ).loc main_arg2) := by
  funext i
  unfold ids
  blk_ext [iblk, V]
  · exact (congrArg (· + _) (Nat.zero_mul _)).trans (Nat.zero_add _)
  · rfl

theorem ews_eq (c : Dev nD) : ews m c = m ((c : Thread nD τ).loc main_arg3) := by
  funext i
  unfold ews
  blk_ext [iblk, V]
  all_goals exact (congrArg (· + _) (Nat.zero_mul _)).trans (Nat.zero_add _)

theorem sws_eq (c : Dev nD) : sws m c = m ((c : Thread nD τ).loc main_arg4) := by
  funext i
  unfold sws
  blk_ext [iblk, V]
  all_goals exact (congrArg (· + _) (Nat.zero_mul _)).trans (Nat.zero_add _)

/-- One expert's weights, loaded from the device's two. -/
theorem load_expert (f : Vec Ideal S2x256x512 .bf16) (k : Fin 2) (h : ∀ a, (![k.val, 0, 0] : Fin 3 → ℕ) a + S1x256x512.size a ≤ S2x256x512.size a)
    (d : Fin 256) (j : Fin 512) :
    (Memref.whole cc0_stg3_0 : Memref sig .tc .vmem S2x256x512 .bf16).view.readAt (Elt Ideal)
      (Rect.unit (s := S2x256x512) ![k.val, 0, 0] S1x256x512.size h).toLoadRect f (ix3 (0 : Fin 1) d j) = f (ix3 k d j) := by
  refine congrArg f (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ew0_apply (c : Dev nD) (d : Fin 256) (j : Fin 512) :
    ew0 m c (ix3 (0 : Fin 1) d j) = m ((c : Thread nD τ).loc main_arg3) (ix3 (0 : Fin 2) d j) := by
  unfold ew0
  rw [ews_eq]
  exact load_expert _ 0 _ d j

theorem ew1_apply (c : Dev nD) (d : Fin 256) (j : Fin 512) :
    ew1 m c (ix3 (0 : Fin 1) d j) = m ((c : Thread nD τ).loc main_arg3) (ix3 (1 : Fin 2) d j) := by
  unfold ew1
  rw [ews_eq]
  exact load_expert _ 1 _ d j

/-! ## The result -/

variable (x : FVec Ideal S512x256 .bf16) (rw_ : FVec Ideal S256x16 .bf16) (id_ : IVec S512x1 32)
  (W : (⟨3, ![16, 256, 512]⟩ : Shape).Idx → EReal) (sw : FVec Ideal S256x512 .bf16)

/-- Every device holds the tokens, the router, the tokens' experts and the shared expert whole, and two of the sixteen experts. -/
structure Given : Prop where
  x_eq : ∀ c : Dev nD, m ((c : Thread nD τ).loc main_arg0) = x
  rw_eq : ∀ c : Dev nD, m ((c : Thread nD τ).loc main_arg1) = rw_
  id_eq : ∀ c : Dev nD, m ((c : Thread nD τ).loc main_arg2) = id_
  w_eq : ∀ (c : Dev nD) (k : Fin 2) (d : Fin 256) (j : Fin 512), m ((c : Thread nD τ).loc main_arg3) (ix3 k d j) = W (ix3 (expert c k) d j)
  sw_eq : ∀ c : Dev nD, m ((c : Thread nD τ).loc main_arg4) = sw

/-- An expert's contribution to a token's row: zero but for the tokens routed to it. -/
def contrib (t j : Fin 512) (e : Fin 16) : EReal :=
  if id_ (ix2 t (0 : Fin 1)) = BitVec.ofNat 32 e.val then k0_pay3 (F := Ideal) x rw_ (ix2 t e) * ∑ k : Fin 256, x (ix2 t k) * W (ix3 e k j) else 0

variable {m x rw_ id_ W sw}

/-- A device's partial sum is its two experts' contributions. -/
theorem part_apply (g : Given m x rw_ id_ W sw) (hP : ∀ t e, ∃ r : ℝ, 0 ≤ r ∧ k0_pay3 (F := Ideal) x rw_ (ix2 t e) = (r : EReal)) (c : Dev nD) (t j : Fin 512) :
    part m c (ix2 t j) = contrib x rw_ id_ W t j (expert c 0) + contrib x rw_ id_ W t j (expert c 1) := by
  have h2 : k0_pay2 (xs m c) = x := (shapeCast_self _ _).trans ((xs_eq m c).trans (g.x_eq c))
  have h4 : k0_pay4 (F := Ideal) (ids m c) = id_ := (shapeCast_self _ _).trans ((ids_eq m c).trans (g.id_eq c))
  have h3 : k0_pay3 (xs m c) (rws m c) = k0_pay3 (F := Ideal) x rw_ := by rw [xs_eq, rws_eq, g.x_eq, g.rw_eq]
  have hw0 (k : Fin 256) : ew0 m c (ix3 (0 : Fin 1) k j) = W (ix3 (expert c 0) k j) := (ew0_apply m c k j).trans (g.w_eq c 0 k j)
  have hw1 (k : Fin 256) : ew1 m c (ix3 (0 : Fin 1) k j) = W (ix3 (expert c 1) k j) := (ew1_apply m c k j).trans (g.w_eq c 1 k j)
  unfold part
  rw [pay5_eq, h2, h3, h4, rank_word0, rank_word1, share_apply _ _ _ _ hP, share_apply _ _ _ _ hP, zero_add]
  simp only [hw0, hw1]
  rfl

/-- The reduced array is the sixteen experts' contributions. -/
theorem total_apply (g : Given m x rw_ id_ W sw) (hP : ∀ t e, ∃ r : ℝ, 0 ≤ r ∧ k0_pay3 (F := Ideal) x rw_ (ix2 t e) = (r : EReal)) (t j : Fin 512) :
    total m (ix2 t j) = ∑ e : Fin 16, contrib x rw_ id_ W t j e := by
  have h0 (c : Dev nD) : acc0 m c = part m c := (shapeCast_self (part m c) shapeCasts_S512x512_S512x512 : k0_pay6 (part m c) = part m c)
  refine Eq.trans ?_ ((cube_sum (fun c => part m c (ix2 t j)) (owner (ix2 t j))).trans ?_)
  · simp only [← h0]
    rfl
  · rw [← expert_sum]
    exact Finset.sum_congr rfl fun c _ => part_apply g hP c t j

/-- Of the sixteen, a routed token's own expert's. -/
theorem total_routed (g : Given m x rw_ id_ W sw) (hP : ∀ t e, ∃ r : ℝ, 0 ≤ r ∧ k0_pay3 (F := Ideal) x rw_ (ix2 t e) = (r : EReal)) (t j : Fin 512)
    (e : Fin 16) (h : id_ (ix2 t (0 : Fin 1)) = BitVec.ofNat 32 e.val) :
    total m (ix2 t j) = k0_pay3 (F := Ideal) x rw_ (ix2 t e) * ∑ k : Fin 256, x (ix2 t k) * W (ix3 e k j) := by
  have hne (f : Fin 16) (hf : f ≠ e) : contrib x rw_ id_ W t j f = 0 := if_neg fun hc => hf ((word_iff f e).1 (hc.symm.trans h))
  rw [total_apply g hP, Finset.sum_eq_single e (fun f _ => hne f) (fun hn => absurd (Finset.mem_univ _) hn)]
  exact if_pos h

/-- A token routed to none of them gets nothing. -/
theorem total_unrouted (g : Given m x rw_ id_ W sw) (hP : ∀ t e, ∃ r : ℝ, 0 ≤ r ∧ k0_pay3 (F := Ideal) x rw_ (ix2 t e) = (r : EReal)) (t j : Fin 512)
    (h : ∀ e : Fin 16, id_ (ix2 t (0 : Fin 1)) ≠ BitVec.ofNat 32 e.val) : total m (ix2 t j) = 0 := by
  rw [total_apply g hP]
  exact Finset.sum_eq_zero fun e _ => if_neg (h e)

/-- The result adds the shared expert's product. -/
theorem outs_apply (g : Given m x rw_ id_ W sw) (c : Dev nD) (i : S512x512.Idx) :
    outs m c i = total m i + matmul (F := Ideal) dot_S512x256_S256x512_S512x512_1_0_0_1_n_n none x sw (constant S512x512 .f32 0x00000000#32) i := by
  have h2 : k0_pay2 (xs m c) = x := (shapeCast_self _ _).trans ((xs_eq m c).trans (g.x_eq c))
  have h7 : shared m c = matmul (F := Ideal) dot_S512x256_S256x512_S512x512_1_0_0_1_n_n none x sw (constant S512x512 .f32 0x00000000#32) := by
    unfold shared k0_pay7
    rw [shapeCast_self, h2, sws_eq, g.sw_eq]
  unfold outs
  rw [h7]
  rfl

end Cert.Cube

end
-- ==== Proof.Reference.lean ====
/-
The reference's result at an element: the shared expert's product, plus, where the token's expert is one
of the sixteen, its probability times the token against that expert's weights.
-/
module

public import proofs.«01_k».proof.Proof.Softmax
public import proofs.«01_k».proof.Proof.Gen.ReferenceIdeal
public import proofs.«01_k».proof.Proof.Gen.ReferenceIdeal.Run
public import Idealize.ShloMosaic.Lib.ReduceAll
public import Idealize.ShloMosaic.Lib.IdealHost

@[expose] public section

set_option maxRecDepth 16384

noncomputable section

namespace Cert.Cube

open Cert.ReferenceIdeal Cert.ReferenceIdeal.Facts₀
open Idealize.ShloMosaic Idealize.ShloMosaic.ValueIdx
open scoped BigOperators

/-! ## The reference's softmax -/

/-- The reference's spelling of the same probabilities. -/
def hostProbs (x : FVec Ideal S512x256 .f32) (rw_ : FVec Ideal S256x16 .f32) : FVec Ideal S512x16 .f32 :=
  Host.divf (Host.exp (subf (Host.dotGeneral dot_S512x256_S256x16_S512x16_1_0_0_1_n_n none x rw_) (broadcastInDim S512x16 ![0, 1] bcast_S512x1_S512x16_0_1 (broadcastInDim S512x1 ![0] bcast_S512_S512x1_0 (Host.reduce FloatOps.maximumf (Host.dotGeneral dot_S512x256_S256x16_S512x16_1_0_0_1_n_n none x rw_) (constant S_ .f32 0xFF800000#32) reducesTo_S512x16_S512_d1 h_S_)))))
    (broadcastInDim S512x16 ![0, 1] bcast_S512x1_S512x16_0_1 (broadcastInDim S512x1 ![0] bcast_S512_S512x1_0 (Host.reduceAdd (Host.exp (subf (Host.dotGeneral dot_S512x256_S256x16_S512x16_1_0_0_1_n_n none x rw_) (broadcastInDim S512x16 ![0, 1] bcast_S512x1_S512x16_0_1 (broadcastInDim S512x1 ![0] bcast_S512_S512x1_0 (Host.reduce FloatOps.maximumf (Host.dotGeneral dot_S512x256_S256x16_S512x16_1_0_0_1_n_n none x rw_) (constant S_ .f32 0xFF800000#32) reducesTo_S512x16_S512_d1 h_S_))))) (constant S_ .f32 0x00000000#32) reducesTo_S512x16_S512_d1 h_S_)))

/-- The reference lays one number per token along the experts as the kernel does. -/
theorem hostSpread_eq (v : FVec Ideal S512 .f32) :
    broadcastInDim S512x16 ![0, 1] bcast_S512x1_S512x16_0_1 (broadcastInDim S512x1 ![0] bcast_S512_S512x1_0 v) = spreadRow v := by
  funext j
  obtain ⟨t, e, rfl⟩ : ∃ (t : Fin 512) (e : Fin 16), j = ix2 t e := ⟨_, _, eq_ix2 j⟩
  rw [spreadRow_apply, broadcastInDim_apply _ _ _ _ (ix2 t (0 : Fin 1)) (fun a => match a with | ⟨0, _⟩ => rfl | ⟨1, _⟩ => rfl),
    broadcastInDim_apply _ _ _ _ (ix1 t) (fun a => match a with | ⟨0, _⟩ => rfl)]

/-- The two softmaxes are one function. -/
theorem hostProbs_eq (x : FVec Ideal S512x256 .bf16) (rw_ : FVec Ideal S256x16 .bf16) : hostProbs x rw_ = Cert.KernelIdeal.Gen.k0_pay3 (F := Ideal) x rw_ := by
  have hd : Host.dotGeneral (F := Ideal) (φ₁ := .f32) (φ₂ := .f32) dot_S512x256_S256x16_S512x16_1_0_0_1_n_n none x rw_ = scores x rw_ :=
    (matmul_zero_eq_dotGeneral (φ₁ := .bf16) (φ₂ := .bf16) Cert.KernelIdeal.dot_S512x256_S256x16_S512x16_1_0_0_1_n_n none x rw_).symm
  have hm (s : FVec Ideal S512x16 .f32) : Host.reduce FloatOps.maximumf s (constant S_ .f32 0xFF800000#32) reducesTo_S512x16_S512_d1 h_S_ = rowMax s :=
    hostReduce_maximumf_eq_multiReduction s _ _ _ Cert.KernelIdeal.Facts₀.reduces_S512x16_S512 (.inl rfl) rfl
  have ha (s : FVec Ideal S512x16 .f32) : Host.reduceAdd s (constant S_ .f32 0x00000000#32) reducesTo_S512x16_S512_d1 h_S_ = rowSum s :=
    (multiReduction_add_eq_hostReduceAdd s _ Cert.KernelIdeal.Facts₀.reduces_S512x16_S512 (.inl rfl) rfl _ _ _ Ideal.ofBits_zero_f32).symm
  unfold hostProbs
  rw [hd, hm, ha, hostSpread_eq, hostSpread_eq, probs_eq]
  rfl

/-! ## Expert numbers -/

/-- The token's expert number, one of the sixteen. -/
abbrev word (e : Fin 16) : BitVec 32 := BitVec.ofNat 32 e.val

theorem word_wrap (e : Fin 16) : Scalar.select (IntOp.cmpi .slt (word e) 0#32) (IntOp.addi (word e) 16#32) (word e) = word e := by
  revert e; decide
theorem word_ge (e : Fin 16) : IntOp.cmpi .sge (word e) 0#32 = 1#1 := by revert e; decide
theorem word_lt (e : Fin 16) : IntOp.cmpi .slt (word e) 16#32 = 1#1 := by revert e; decide
theorem word_le (e : Fin 16) : IntOp.cmpi .sle (word e) 15#32 = 1#1 := by revert e; decide
theorem word_clamp (e : Fin 16) : min (word e).toInt.toNat 15 = e.val := by revert e; decide
theorem word_inj (e f : Fin 16) (h : word e = word f) : e = f := by revert e f; decide

/-- A word the reference finds in range is one of the sixteen numbers. -/
theorem word_of_valid (v : BitVec 32) (h : IntOp.andi (IntOp.cmpi .sge v 0#32) (IntOp.cmpi .slt v 16#32) = 1#1) : ∃ e : Fin 16, v = word e := by
  obtain ⟨h0, h1⟩ := IntOp.andi_eq_one.1 h
  rw [IntOp.cmpi_sge] at h0
  rw [IntOp.cmpi_slt] at h1
  have e0 : (0#32 : BitVec 32).toInt = 0 := by decide
  have e1 : (16#32 : BitVec 32).toInt = 16 := by decide
  rw [e0] at h0
  rw [e1] at h1
  have hv : v.toInt = v.toNat := by
    rw [BitVec.toInt_eq_toNat_cond] at h0 ⊢
    have := v.isLt
    split at h0 <;> split <;> omega
  refine ⟨⟨v.toNat, by omega⟩, ?_⟩
  show v = BitVec.ofNat 32 v.toNat
  rw [BitVec.ofNat_toNat, BitVec.setWidth_eq]

/-! ## The two gathers and the batched product -/

/-- The probability of the token's expert. -/
theorem gather_prob (P : FVec Ideal S512x16 .f32) (J : IVec S512x1x1 32) (t : Fin 512) (e : Fin 16)
    (h : J (ix3 t (0 : Fin 1) (0 : Fin 1)) = word e) :
    Host.gather gather_S512x16_S512x1x1_S512x1_n_1_0_0_1_2_11 P J (ix2 t (0 : Fin 1)) = P (ix2 t e) := by
  unfold Host.gather
  let D := gather_S512x16_S512x1x1_S512x1_n_1_0_0_1_2_11
  have h0 : (0 : Fin 2) ∈ D.operandBatchingDims := List.mem_singleton.mpr rfl
  have h1 : (1 : Fin 2) ∈ D.startIndexMap := List.mem_singleton.mpr rfl
  have h1' : (1 : Fin 2) ∈ D.collapsedSliceDims := List.mem_singleton.mpr rfl
  have key : ∀ a : Fin 2, D.start (ix2 t (0 : Fin 1)) J a + D.batchCoord (ix2 t (0 : Fin 1)) a + D.offCoord (ix2 t (0 : Fin 1)) a
      = ((ix2 t e : S512x16.Idx) a).val := by
    intro a
    have ha : a = 0 ∨ a = 1 := by revert a; decide
    rcases ha with rfl | rfl
    · rw [D.start_batching _ _ _ h0, D.offCoord_eq_zero _ _ fun h => ((D.mem_sKept _).mp h).2 h0, Nat.zero_add, Nat.add_zero]
      unfold GatherDims.batchCoord
      rw [dif_pos h0]
      rfl
    · rw [D.batchCoord_eq_zero _ _ (D.sim_disjoint _ h1), D.offCoord_eq_zero _ _ fun h => ((D.mem_sKept _).mp h).1 h1',
        Nat.add_zero]
      unfold GatherDims.start
      rw [dif_pos h1]
      have hsi : D.siIdx (ix2 t (0 : Fin 1)) ⟨D.startIndexMap.idxOf 1, List.idxOf_lt_length_iff.2 h1⟩ = ix3 t (0 : Fin 1) (0 : Fin 1) := by
        funext b; refine Fin.ext ?_
        match b with
        | ⟨0, _⟩ => rfl
        | ⟨1, _⟩ => rfl
        | ⟨2, _⟩ => rfl
      rw [hsi, h]
      exact word_clamp e
  exact congrArg P (funext fun a => Fin.ext (key a))

/-- The weights of the token's expert. -/
theorem gather_weight (W : FVec Ideal S16x256x512 .f32) (K : IVec S512x1 32) (t : Fin 512) (d : Fin 256) (j : Fin 512) (e : Fin 16)
    (h : K (ix2 t (0 : Fin 1)) = word e) :
    Host.gather gather_S16x256x512_S512x1_S512x256x512_12_0_n_n_0_1_1256512 W K (ix3 t d j) = W (ix3 e d j) := by
  unfold Host.gather
  let D := gather_S16x256x512_S512x1_S512x256x512_12_0_n_n_0_1_1256512
  have h0 : (0 : Fin 3) ∈ D.startIndexMap := List.mem_singleton.mpr rfl
  have h0' : (0 : Fin 3) ∈ D.collapsedSliceDims := List.mem_singleton.mpr rfl
  have hb (a : Fin 3) : a ∉ D.operandBatchingDims := List.not_mem_nil
  have hm (a : Fin 3) (ha : a ≠ 0) : a ∉ D.startIndexMap := fun h => ha (List.mem_singleton.mp h)
  have hk (a : Fin 3) (ha : a ≠ 0) : a ∈ D.sKept := (D.mem_sKept a).2 ⟨fun h => ha (List.mem_singleton.mp h), hb a⟩
  have key : ∀ a : Fin 3, D.start (ix3 t d j) K a + D.batchCoord (ix3 t d j) a + D.offCoord (ix3 t d j) a
      = ((ix3 e d j : S16x256x512.Idx) a).val := by
    intro a
    rw [D.batchCoord_eq_zero _ _ (hb a), Nat.add_zero]
    have ha : a = 0 ∨ a = 1 ∨ a = 2 := by revert a; decide
    rcases ha with rfl | rfl | rfl
    · rw [D.offCoord_eq_zero _ _ fun h => ((D.mem_sKept _).mp h).1 h0', Nat.add_zero]
      unfold GatherDims.start
      rw [dif_pos h0]
      have hsi : D.siIdx (ix3 t d j) ⟨D.startIndexMap.idxOf 0, List.idxOf_lt_length_iff.2 h0⟩ = ix2 t (0 : Fin 1) := by
        funext b; refine Fin.ext ?_
        match b with
        | ⟨0, _⟩ => rfl
        | ⟨1, _⟩ => rfl
      rw [hsi, h]
      exact word_clamp e
    · unfold GatherDims.start GatherDims.offCoord
      rw [dif_neg (hm 1 (by decide)), dif_pos (hk 1 (by decide)), Nat.zero_add]
      rfl
    · unfold GatherDims.start GatherDims.offCoord
      rw [dif_neg (hm 2 (by decide)), dif_pos (hk 2 (by decide)), Nat.zero_add]
      rfl
  exact congrArg W (funext fun a => Fin.ext (key a))

/-- Each token against its own matrix. -/
theorem routed_apply (x : FVec Ideal S512x256 .f32) (G : FVec Ideal S512x256x512 .f32) (t j : Fin 512) :
    Host.dotGeneral dot_S512x256_S512x256x512_S512x512_1_1_n_2_0_0 none x G (ix2 t j) = ∑ k : Fin 256, x (ix2 t k) * G (ix3 t k j) := by
  refine (Ideal.dotGeneral_apply ..).trans ?_
  let D := dot_S512x256_S512x256x512_S512x512_1_1_n_2_0_0
  let E := contrEquiv1 D 256 rfl rfl
  rw [← Equiv.sum_comp E.symm]
  refine Finset.sum_congr rfl fun k _ => ?_
  have hk := contrEquiv1_symm_val D 256 rfl rfl k
  have el : D.lhsIdx (ix2 t j) (E.symm k) = ix2 t k := by
    funext a; apply Fin.ext
    match a with
    | ⟨0, _⟩ => rfl
    | ⟨1, _⟩ => exact hk
  have er : D.rhsIdx (ix2 t j) (E.symm k) = ix3 t k j := by
    funext a; apply Fin.ext
    match a with
    | ⟨0, _⟩ => rfl
    | ⟨1, _⟩ => exact hk
    | ⟨2, _⟩ => rfl
  exact congrArg₂ (· * ·) (congrArg x el) (congrArg G er)

/-! ## The result at an element -/

/-- The token's expert number, counted from the end where it is negative. -/
def wrap {s : Shape} (h : S_.BroadcastsInDim s ![]) (id_ : IVec s 32) : IVec s 32 :=
  select (cmpi .slt id_ (broadcastInDim s ![] h (constantI S_ 32 0#32))) (addi id_ (broadcastInDim s ![] h (constantI S_ 32 16#32))) id_

theorem wrap_apply {s : Shape} (h : S_.BroadcastsInDim s ![]) (id_ : IVec s 32) (i : s.Idx) (e : Fin 16) (hi : id_ i = word e) :
    wrap h id_ i = word e := by
  show Scalar.select (IntOp.cmpi .slt (id_ i) 0#32) (IntOp.addi (id_ i) 16#32) (id_ i) = _
  rw [hi]
  exact word_wrap e

/-- Where the token's expert is one of the sixteen. -/
def valid (id_ : IVec S512x1 32) : IVec S512x1 1 :=
  andi (cmpi .sge id_ (broadcastInDim S512x1 ![] bcast_S_S512x1 (constantI S_ 32 0#32))) (cmpi .slt id_ (broadcastInDim S512x1 ![] bcast_S_S512x1 (constantI S_ 32 16#32)))

/-- The expert numbers as the reference looks the probabilities up by them. -/
def lookup (id_ : IVec S512x1 32) : IVec S512x1x1 32 := shapeCast S512x1x1 (wrap bcast_S_S512x1 id_) shapeCasts_S512x1_S512x1x1

theorem lookup_apply (id_ : IVec S512x1 32) (t : Fin 512) (e : Fin 16) (h : id_ (ix2 t (0 : Fin 1)) = word e) :
    lookup id_ (ix3 t (0 : Fin 1) (0 : Fin 1)) = word e := by
  refine Eq.trans (shapeCast_apply _ _ _ (ix2 t (0 : Fin 1)) ?_) (wrap_apply _ _ _ e h)
  rw [Shape.rowMajor_val_two, Shape.rowMajor_val_three]
  show t.val * 1 + 0 = (t.val * 1 + 0) * 1 + 0
  omega

/-- Where the number looked up by is in range. -/
def inRange (J : IVec S512x1x1 32) : IVec S512x1 1 :=
  Host.reduce IntOp.andi (andi (cmpi .sge J (broadcastInDim S512x1x1 ![] bcast_S_S512x1x1 (constantI S_ 32 0#32))) (cmpi .sle J (broadcastInDim S512x1x1 ![0, 1, 2] bcast_S1x1x1_S512x1x1_0_1_2 (broadcastInDim S1x1x1 ![2] bcast_S1_S1x1x1_2 (constantI S1 32 15#32))))) (constantI S_ 1 1#1) reducesTo_S512x1x1_S512x1_d2 h_S_

theorem inRange_apply (J : IVec S512x1x1 32) (t : Fin 512) (e : Fin 16) (h : J (ix3 t (0 : Fin 1) (0 : Fin 1)) = word e) :
    inRange J (ix2 t (0 : Fin 1)) = 1#1 := by
  unfold inRange
  rw [Host.reduce_eq_foldl]
  refine IntOp.foldl_andi_one _ _ _ rfl fun i hi => ?_
  have hd := (of_decide_eq_true (List.mem_filter.1 hi).2 : _ = ix2 t (0 : Fin 1))
  obtain ⟨a, b, c, rfl⟩ : ∃ (a : Fin 512) (b c : Fin 1), i = ix3 a b c := ⟨_, _, _, eq_ix3 i⟩
  obtain rfl : b = 0 := Subsingleton.elim _ _
  obtain rfl : c = 0 := Subsingleton.elim _ _
  obtain rfl : a = t := congrFun hd (0 : Fin 2)
  show IntOp.andi (IntOp.cmpi .sge (J _) 0#32) (IntOp.cmpi .sle (J _) 15#32) = 1#1
  rw [h, word_ge, word_le]
  rfl

/-- The token's probability, looked up. -/
def gate (P : FVec Ideal S512x16 .f32) (id_ : IVec S512x1 32) : FVec Ideal S512x1 .f32 :=
  select (inRange (lookup id_)) (Host.gather gather_S512x16_S512x1x1_S512x1_n_1_0_0_1_2_11 P (lookup id_)) (broadcastInDim S512x1 ![] bcast_S_S512x1 (constant S_ .f32 0x7FC00000#32))

theorem gate_apply (P : FVec Ideal S512x16 .f32) (id_ : IVec S512x1 32) (t : Fin 512) (e : Fin 16) (h : id_ (ix2 t (0 : Fin 1)) = word e) :
    gate P id_ (ix2 t (0 : Fin 1)) = P (ix2 t e) := by
  unfold gate
  rw [select_apply, inRange_apply _ t e (lookup_apply id_ t e h), select_one, gather_prob _ _ t e (lookup_apply id_ t e h)]

/-- Each token against the weights of its expert, looked up. -/
def routed (x : FVec Ideal S512x256 .f32) (id_ : IVec S512x1 32) (W : FVec Ideal S16x256x512 .f32) : FVec Ideal S512x512 .f32 :=
  Host.dotGeneral dot_S512x256_S512x256x512_S512x512_1_1_n_2_0_0 none x (Host.gather gather_S16x256x512_S512x1_S512x256x512_12_0_n_n_0_1_1256512 W
    (broadcastInDim S512x1 ![0] bcast_S512_S512x1_0 (wrap bcast_S_S512 (shapeCast S512 id_ shapeCasts_S512x1_S512))))

theorem routed_eq (x : FVec Ideal S512x256 .f32) (id_ : IVec S512x1 32) (W : FVec Ideal S16x256x512 .f32) (t j : Fin 512) (e : Fin 16)
    (h : id_ (ix2 t (0 : Fin 1)) = word e) : routed x id_ W (ix2 t j) = ∑ k : Fin 256, x (ix2 t k) * W (ix3 e k j) := by
  refine (routed_apply _ _ t j).trans (Finset.sum_congr rfl fun k _ => congrArg (x (ix2 t k) * ·) (gather_weight _ _ t k j e ?_))
  rw [broadcastInDim_apply _ _ _ _ (ix1 t) (fun a => match a with | ⟨0, _⟩ => rfl)]
  refine wrap_apply _ _ _ e ((shapeCast_apply _ _ _ (ix2 t (0 : Fin 1)) ?_).trans h)
  rw [Shape.rowMajor_val_two, Shape.rowMajor_val_one]
  show t.val * 1 + 0 = t.val
  omega

/-- The reference's result, of its five arguments. -/
def refOut (x : FVec Ideal S512x256 .f32) (rw_ : FVec Ideal S256x16 .f32) (id_ : IVec S512x1 32) (W : FVec Ideal S16x256x512 .f32)
    (sw : FVec Ideal S256x512 .f32) : FVec Ideal S512x512 .f32 :=
  addf (Host.dotGeneral dot_S512x256_S256x512_S512x512_1_0_0_1_n_n none x sw)
    (select (broadcastInDim S512x512 ![0, 1] bcast_S512x1_S512x512_0_1 (valid id_))
      (mulf (broadcastInDim S512x512 ![0, 1] bcast_S512x1_S512x512_0_1 (gate (hostProbs x rw_) id_)) (routed x id_ W))
      (broadcastInDim S512x512 ![] bcast_S_S512x512 (id (constant S_ .f32 0x00000000#32))))

theorem column_apply {α : Type} (v : S512x1.Idx → α) (t j : Fin 512) :
    broadcastInDim S512x512 ![0, 1] bcast_S512x1_S512x512_0_1 v (ix2 t j) = v (ix2 t (0 : Fin 1)) :=
  broadcastInDim_apply _ _ _ _ _ (fun a => match a with | ⟨0, _⟩ => rfl | ⟨1, _⟩ => rfl)

theorem refOut_routed (x : FVec Ideal S512x256 .f32) (rw_ : FVec Ideal S256x16 .f32) (id_ : IVec S512x1 32) (W : FVec Ideal S16x256x512 .f32)
    (sw : FVec Ideal S256x512 .f32) (t j : Fin 512) (e : Fin 16) (h : id_ (ix2 t (0 : Fin 1)) = word e) :
    refOut x rw_ id_ W sw (ix2 t j) = Host.dotGeneral (F := Ideal) dot_S512x256_S256x512_S512x512_1_0_0_1_n_n none x sw (ix2 t j)
      + hostProbs x rw_ (ix2 t e) * ∑ k : Fin 256, x (ix2 t k) * W (ix3 e k j) := by
  have hv : valid id_ (ix2 t (0 : Fin 1)) = 1#1 := by
    show IntOp.andi (IntOp.cmpi .sge (id_ _) 0#32) (IntOp.cmpi .slt (id_ _) 16#32) = 1#1
    rw [h, word_ge, word_lt]
    rfl
  unfold refOut
  rw [addf_apply, select_apply, column_apply, hv, select_one, mulf_apply, column_apply, gate_apply _ _ t e h, routed_eq _ _ _ t j e h]

theorem refOut_unrouted (x : FVec Ideal S512x256 .f32) (rw_ : FVec Ideal S256x16 .f32) (id_ : IVec S512x1 32) (W : FVec Ideal S16x256x512 .f32)
    (sw : FVec Ideal S256x512 .f32) (t j : Fin 512) (h : ∀ e, id_ (ix2 t (0 : Fin 1)) ≠ word e) :
    refOut x rw_ id_ W sw (ix2 t j) = Host.dotGeneral (F := Ideal) dot_S512x256_S256x512_S512x512_1_0_0_1_n_n none x sw (ix2 t j) + 0 := by
  have hv : valid id_ (ix2 t (0 : Fin 1)) = 0#1 :=
    eq_zero_of_ne_one fun hv => (word_of_valid _ hv).elim h
  unfold refOut
  rw [addf_apply, select_apply, column_apply, hv, select_zero]
  exact congrArg (_ + ·) Ideal.ofBits_zero_f32

/-- The run's result is that function of the arguments' contents. -/
theorem res_eq (m : (ℓ : Loc nD τ sig) → Buf (Elt Ideal) ℓ) (c : Dev nD) :
    Cert.ReferenceIdeal.Value.res_out0 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Cube

end
-- ==== Proof.Equation.lean ====
/-
The kernel and the reference compute one array: over finite tokens and router weights, on every device the
kernel's result is the reference's.
-/
module

public import proofs.«01_k».proof.Defs
public import proofs.«01_k».proof.Proof.Values
public import proofs.«01_k».proof.Proof.Reference
public import proofs.«01_k».proof.Proof.Frames
public import Idealize.ShloMosaic.Lib.Layout

@[expose] public section

set_option maxRecDepth 16384

noncomputable section

namespace Cert.Cube

open Idealize.ShloMosaic Idealize.ShloMosaic.TcCoe Idealize.ShloMosaic.ValueIdx Idealize.SL.Sem
open scoped BigOperators

/-! ## The precondition read at an element -/

instance pre_facts : Cert.Pre_router_is_finite_KernelIdeal.Facts where
  bcast_S_S512x256 := by decide
  reducesTo_S512x256_S_d0_1 := by decide
  h_S_ := by decide
  bcast_S_S256x16 := by decide
  reducesTo_S256x16_S_d0_1 := by decide

instance pre_facts_reference : Cert.Pre_router_is_finite_ReferenceIdeal.Facts where
  bcast_S_S512x256 := by decide
  reducesTo_S512x256_S_d0_1 := by decide
  h_S_ := by decide
  bcast_S_S256x16 := by decide
  reducesTo_S256x16_S_d0_1 := by decide

/-- A number whose magnitude is below infinity is real. -/
theorem real_of_abs_lt (v : EReal) (h : Ideal.cmp .olt (max v (-v)) (Ideal.ofBits .bf16 0x7F80#16) = 1#1) : ∃ r : ℝ, v = (r : EReal) := by
  have ht : Ideal.ofBits .bf16 0x7F80#16 = ⊤ := by simp [Ideal.ofBits, Ideal.ieee]
  rw [ht] at h
  induction v using EReal.rec with
  | bot => exact absurd h (by simp [Ideal.cmp])
  | coe r => exact ⟨r, rfl⟩
  | top => exact absurd h (by simp [Ideal.cmp])

theorem inputs_real (x : FVec Ideal Cert.KernelIdeal.S512x256 .bf16) (rw_ : FVec Ideal Cert.KernelIdeal.S256x16 .bf16) (id_ : IVec Cert.KernelIdeal.S512x1 32)
    (W : FVec Ideal Cert.KernelIdeal.S2x256x512 .bf16) (sw : FVec Ideal Cert.KernelIdeal.S256x512 .bf16)
    (h : Cert.Pre_router_is_finite_KernelIdeal.fn (F := Ideal) x rw_ id_ W sw = fun _ => 1#1) :
    (∀ i, ∃ r : ℝ, x i = (r : EReal)) ∧ ∀ i, ∃ r : ℝ, rw_ i = (r : EReal) := by
  obtain ⟨h1, h2⟩ := IntOp.andi_eq_one.1 (congrFun h ix0)
  haveI : Subsingleton Cert.Pre_router_is_finite_KernelIdeal.S_.Idx := ⟨fun a b => funext fun k => k.elim0⟩
  exact ⟨fun i => real_of_abs_lt _ (Host.reduce_andi_all _ _ _ _ _ h1 i), fun i => real_of_abs_lt _ (Host.reduce_andi_all _ _ _ _ _ h2 i)⟩

/-! ## The results agree -/

variable {m : (ℓ : Loc Cert.KernelIdeal.nD Cert.KernelIdeal.τ Cert.KernelIdeal.sig) → Buf (Elt Ideal) ℓ}
  {x : FVec Ideal Cert.KernelIdeal.S512x256 .bf16} {rw_ : FVec Ideal Cert.KernelIdeal.S256x16 .bf16} {id_ : IVec Cert.KernelIdeal.S512x1 32}
  {W : FVec Ideal Cert.ReferenceIdeal.S16x256x512 .bf16} {sw : FVec Ideal Cert.KernelIdeal.S256x512 .bf16}

theorem outs_eq (g : Given m x rw_ id_ W sw) (hx : ∀ i, ∃ r : ℝ, x i = (r : EReal)) (hw : ∀ i, ∃ r : ℝ, rw_ i = (r : EReal)) (c : Dev Cert.KernelIdeal.nD) :
    outs m c = refOut x rw_ id_ W sw := by
  have hP := probs_real x rw_ hx hw
  have hs : matmul (F := Ideal) Cert.KernelIdeal.dot_S512x256_S256x512_S512x512_1_0_0_1_n_n none x sw (constant Cert.KernelIdeal.S512x512 .f32 0x00000000#32)
      = Host.dotGeneral (F := Ideal) (φ₁ := .f32) (φ₂ := .f32) Cert.ReferenceIdeal.dot_S512x256_S256x512_S512x512_1_0_0_1_n_n none x sw :=
    matmul_zero_eq_dotGeneral _ _ x sw
  funext i
  obtain ⟨t, j, rfl⟩ : ∃ (t j : Fin 512), i = ix2 t j := ⟨_, _, eq_ix2 i⟩
  rw [outs_apply g, hs, add_comm]
  by_cases h : ∃ e : Fin 16, id_ (ix2 t (0 : Fin 1)) = word e
  · obtain ⟨e, he⟩ := h
    rw [refOut_routed _ _ _ _ _ t j e he, total_routed g hP t j e he, hostProbs_eq]
  · have hn : ∀ e : Fin 16, id_ (ix2 t (0 : Fin 1)) ≠ word e := fun e he => h ⟨e, he⟩
    rw [refOut_unrouted _ _ _ _ _ t j hn, total_unrouted g hP t j hn]

/-- The block of the experts' weights a device holds: its `k`-th matrix is that of expert `2 * c + k`. -/
theorem block_expert (c : Fin 8) (W : FVec Ideal Cert.ReferenceIdeal.S16x256x512 .bf16)
    (h : Layout.Tiles (⟨3, ![2, 256, 512]⟩ : Shape) (⟨3, ![16, 256, 512]⟩ : Shape) 0 8) (k : Fin 2) (d : Fin 256) (j : Fin 512) :
    Layout.block (⟨3, ![2, 256, 512]⟩ : Shape) (⟨3, ![16, 256, 512]⟩ : Shape) 0 8 c W h (ix3 k d j) = W (ix3 (expert c k) d j) := by
  refine congrArg W (funext fun a => Fin.ext ?_)
  refine (Layout.Tiles.idx_val h c (ix3 k d j) a).trans ?_
  match a with
  | ⟨0, _⟩ => exact congrArg (· + k.val) (Nat.mul_comm c.val 2)
  | ⟨1, _⟩ => rfl
  | ⟨2, _⟩ => rfl

/-- The kernel and the reference end with one array. -/
theorem algebraic : Cert.algebraic_KernelIdeal_ReferenceIdeal_pre_router_is_finite_KernelIdeal := by
  intro m ρ m' ρ' hpre hargs
  obtain ⟨hx, hw⟩ := inputs_real _ _ _ _ _ (hpre 0)
  rw [(hargs 0).1] at hx
  rw [(hargs 0).2.1] at hw
  have g : Given m _ _ _ (m' (((0 : Dev Cert.ReferenceIdeal.nD).tc : Thread Cert.ReferenceIdeal.nD Cert.ReferenceIdeal.τ).loc Cert.ReferenceIdeal.main_arg3)) _ :=
    { x_eq := fun c => (hargs c).1
      rw_eq := fun c => (hargs c).2.1
      id_eq := fun c => (hargs c).2.2.1
      w_eq := fun c k d j => by
        exact (congrFun (hargs c).2.2.2.1 (ix3 k d j)).trans (block_expert c _ _ k d j)
      sw_eq := fun c => (hargs c).2.2.2.2 }
  refine ⟨_, (θ_run Cert.KernelIdeal.defs _ _).mono (fun r h c => ?_) (run_main (F := Ideal) m ρ),
    (θ_run Cert.ReferenceIdeal.defs _ _).mono (fun r h => h 0) (Cert.ReferenceIdeal.Value.run (F := Ideal) m' ρ')⟩
  exact ⟨(h.1 c).1.trans ((outs_eq g hx hw c).trans (res_eq m' 0).symm), (h.1 c).2⟩

end Cert.Cube

end
-- ==== Proof.lean ====
/-
The claim of proofs.«01_k».proof.Defs: the kernel, at both readings of its floats, and the reference run to the end
with their arguments unchanged; and over finite tokens and router weights the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Cube.pre_facts, Cert.Cube.pre_facts_reference,
  Cert.Cube.frame_kernel, Cert.Cube.frame_kernelIdeal, fun m g _ => Cert.Cube.frame_kernelIdeal m g trivial,
  Cert.Cube.frame_reference, fun m g _ => Cert.Cube.frame_reference m g trivial, trivial, Cert.Cube.algebraic⟩

end Cert.Proof

end
